-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S1024x50 : Shape := ⟨2, ![1024, 50]⟩
abbrev S1000x1 : Shape := ⟨2, ![1000, 1]⟩
abbrev S64 : Shape := ⟨1, ![64]⟩
abbrev S2x64 : Shape := ⟨2, ![2, 64]⟩
abbrev S192x128 : Shape := ⟨2, ![192, 128]⟩
abbrev S192x64 : Shape := ⟨2, ![192, 64]⟩
abbrev S192 : Shape := ⟨1, ![192]⟩
abbrev S64x64 : Shape := ⟨2, ![64, 64]⟩
abbrev S1x64 : Shape := ⟨2, ![1, 64]⟩
abbrev S1 : Shape := ⟨1, ![1]⟩
abbrev S64x192 : Shape := ⟨2, ![64, 192]⟩
abbrev S_ : Shape := ⟨0, ![]⟩

class Facts : Prop where
  bcast_S_S1024x50 : S_.BroadcastsInDim S1024x50 (![] : Fin 0 → Fin S1024x50.rank)

variable [Facts]

def fn {F : FTy → Type} [FloatOps F] (main_arg0 : IVec S1024x50 32) (main_arg1 : IVec S1024x50 32) (main_arg2 : IVec S1024x50 32) (main_arg3 : IVec S1024x50 32) (main_arg4 : IVec S1024x50 32) (main_arg5 : FVec F S1000x1 .f32) (main_arg6 : FVec F S64 .f32) (main_arg7 : FVec F S64 .f32) (main_arg8 : FVec F S2x64 .f32) (main_arg9 : FVec F S192x128 .f32) (main_arg10 : FVec F S192x64 .f32) (main_arg11 : FVec F S192 .f32) (main_arg12 : FVec F S192 .f32) (main_arg13 : FVec F S64x64 .f32) (main_arg14 : FVec F S64 .f32) (main_arg15 : FVec F S1x64 .f32) (main_arg16 : FVec F S1 .f32) (main_arg17 : FVec F S64x192 .f32) (main_arg18 : FVec F S64 .f32) (main_arg19 : FVec F S1x64 .f32) (main_arg20 : FVec F S1 .f32) : IVec S1024x50 1 :=
  let main_c : IVec S_ 32 := constantI S_ 32 0#32
  let main_v0 : IVec S1024x50 32 := broadcastInDim S1024x50 ![] bcast_S_S1024x50 main_c
  let main_v1 : IVec S1024x50 1 := cmpi .sge main_arg1 main_v0
  let main_c_0 : IVec S_ 32 := constantI S_ 32 1000#32
  let main_v2 : IVec S1024x50 32 := broadcastInDim S1024x50 ![] bcast_S_S1024x50 main_c_0
  let main_v3 : IVec S1024x50 1 := cmpi .slt main_arg1 main_v2
  let main_v4 : IVec S1024x50 1 := andi main_v1 main_v3
  let main_c_1 : IVec S_ 32 := constantI S_ 32 0#32
  let main_v5 : IVec S1024x50 32 := broadcastInDim S1024x50 ![] bcast_S_S1024x50 main_c_1
  let main_v6 : IVec S1024x50 1 := cmpi .sge main_arg3 main_v5
  let main_v7 : IVec S1024x50 1 := andi main_v4 main_v6
  let main_c_2 : IVec S_ 32 := constantI S_ 32 1000#32
  let main_v8 : IVec S1024x50 32 := broadcastInDim S1024x50 ![] bcast_S_S1024x50 main_c_2
  let main_v9 : IVec S1024x50 1 := cmpi .slt main_arg3 main_v8
  let main_v10 : IVec S1024x50 1 := andi main_v7 main_v9
  let main_c_3 : IVec S_ 32 := constantI S_ 32 0#32
  let main_v11 : IVec S1024x50 32 := broadcastInDim S1024x50 ![] bcast_S_S1024x50 main_c_3
  let main_v12 : IVec S1024x50 1 := cmpi .sge main_arg4 main_v11
  let main_v13 : IVec S1024x50 1 := andi main_v10 main_v12
  let main_c_4 : IVec S_ 32 := constantI S_ 32 2#32
  let main_v14 : IVec S1024x50 32 := broadcastInDim S1024x50 ![] bcast_S_S1024x50 main_c_4
  let main_v15 : IVec S1024x50 1 := cmpi .slt main_arg4 main_v14
  let main_v16 : IVec S1024x50 1 := andi main_v13 main_v15
  main_v16
-- ==== Kernel.lean ====
abbrev S1024x50 : Shape := ⟨2, ![1024, 50]⟩
abbrev S1000x1 : Shape := ⟨2, ![1000, 1]⟩
abbrev S64 : Shape := ⟨1, ![64]⟩
abbrev S2x64 : Shape := ⟨2, ![2, 64]⟩
abbrev S192x128 : Shape := ⟨2, ![192, 128]⟩
abbrev S192x64 : Shape := ⟨2, ![192, 64]⟩
abbrev S192 : Shape := ⟨1, ![192]⟩
abbrev S64x64 : Shape := ⟨2, ![64, 64]⟩
abbrev S1x64 : Shape := ⟨2, ![1, 64]⟩
abbrev S1 : Shape := ⟨1, ![1]⟩
abbrev S64x192 : Shape := ⟨2, ![64, 192]⟩
abbrev S_ : Shape := ⟨0, ![]⟩
abbrev S7x64 : Shape := ⟨2, ![7, 64]⟩
abbrev S1x1000 : Shape := ⟨2, ![1, 1000]⟩
abbrev S1x192 : Shape := ⟨2, ![1, 192]⟩
abbrev S8x64 : Shape := ⟨2, ![8, 64]⟩
abbrev S1x1 : Shape := ⟨2, ![1, 1]⟩
abbrev S1024x50x1x1 : Shape := ⟨4, ![1024, 50, 1, 1]⟩
abbrev S1024x50x1x64 : Shape := ⟨4, ![1024, 50, 1, 64]⟩
abbrev S1024x50x1x1000 : Shape := ⟨4, ![1024, 50, 1, 1000]⟩
abbrev S1024x5x1x1 : Shape := ⟨4, ![1024, 5, 1, 1]⟩
abbrev S1024x5x1x64 : Shape := ⟨4, ![1024, 5, 1, 64]⟩
abbrev S1024x5x1x1000 : Shape := ⟨4, ![1024, 5, 1, 1000]⟩
abbrev S1024x64 : Shape := ⟨2, ![1024, 64]⟩
abbrev S1024x1000 : Shape := ⟨2, ![1024, 1000]⟩
abbrev S1024 : Shape := ⟨1, ![1024]⟩
abbrev S1024x1 : Shape := ⟨2, ![1024, 1]⟩
abbrev S1024x128 : Shape := ⟨2, ![1024, 128]⟩
abbrev S1024x192 : Shape := ⟨2, ![1024, 192]⟩
abbrev S1024x1x1x64 : Shape := ⟨4, ![1024, 1, 1, 64]⟩
abbrev S1024x8 : Shape := ⟨2, ![1024, 8]⟩
abbrev S1024x1x1x1 : Shape := ⟨4, ![1024, 1, 1, 1]⟩
abbrev S1024x1x1x1000 : Shape := ⟨4, ![1024, 1, 1, 1000]⟩
abbrev S1024x50x64 : Shape := ⟨3, ![1024, 50, 64]⟩
abbrev S1024x50x1000 : Shape := ⟨3, ![1024, 50, 1000]⟩

abbrev nBuf : Space → Nat
  | .hbm => 48
  | .vmem => 26
  | .smem => 0
  | _ => 0

abbrev bufTy : (tb : Table) → Fin (tcTables nBuf tb) → BufTy
  | .hbm, ⟨0, _⟩ => ⟨S1024x50, .i32⟩
  | .hbm, ⟨1, _⟩ => ⟨S1024x50, .i32⟩
  | .hbm, ⟨2, _⟩ => ⟨S1024x50, .i32⟩
  | .hbm, ⟨3, _⟩ => ⟨S1024x50, .i32⟩
  | .hbm, ⟨4, _⟩ => ⟨S1024x50, .i32⟩
  | .hbm, ⟨5, _⟩ => ⟨S1000x1, .f32⟩
  | .hbm, ⟨6, _⟩ => ⟨S64, .f32⟩
  | .hbm, ⟨7, _⟩ => ⟨S64, .f32⟩
  | .hbm, ⟨8, _⟩ => ⟨S2x64, .f32⟩
  | .hbm, ⟨9, _⟩ => ⟨S192x128, .f32⟩
  | .hbm, ⟨10, _⟩ => ⟨S192x64, .f32⟩
  | .hbm, ⟨11, _⟩ => ⟨S192, .f32⟩
  | .hbm, ⟨12, _⟩ => ⟨S192, .f32⟩
  | .hbm, ⟨13, _⟩ => ⟨S64x64, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S64x192, .f32⟩
  | .hbm, ⟨18, _⟩ => ⟨S64, .f32⟩
  | .hbm, ⟨19, _⟩ => ⟨S1x64, .f32⟩
  | .hbm, ⟨20, _⟩ => ⟨S1, .f32⟩
  | .hbm, ⟨21, _⟩ => ⟨S_, .f32⟩
  | .hbm, ⟨22, _⟩ => ⟨S7x64, .f32⟩
  | .hbm, ⟨23, _⟩ => ⟨S_, .i32⟩
  | .hbm, ⟨24, _⟩ => ⟨S1024x50, .i32⟩
  | .hbm, ⟨25, _⟩ => ⟨S1024x50, .i32⟩
  | .hbm, ⟨26, _⟩ => ⟨S1024x50, .i32⟩
  | .hbm, ⟨27, _⟩ => ⟨S_, .i32⟩
  | .hbm, ⟨28, _⟩ => ⟨S1024x50, .i32⟩
  | .hbm, ⟨29, _⟩ => ⟨S1024x50, .i32⟩
  | .hbm, ⟨30, _⟩ => ⟨S1024x50, .i32⟩
  | .hbm, ⟨31, _⟩ => ⟨S1x1000, .f32⟩
  | .hbm, ⟨32, _⟩ => ⟨S1x64, .f32⟩
  | .hbm, ⟨33, _⟩ => ⟨S1x64, .f32⟩
  | .hbm, ⟨34, _⟩ => ⟨S1x192, .f32⟩
  | .hbm, ⟨35, _⟩ => ⟨S1x192, .f32⟩
  | .hbm, ⟨36, _⟩ => ⟨S1x64, .f32⟩
  | .hbm, ⟨37, _⟩ => ⟨S8x64, .f32⟩
  | .hbm, ⟨38, _⟩ => ⟨S1x1, .f32⟩
  | .hbm, ⟨39, _⟩ => ⟨S1x64, .f32⟩
  | .hbm, ⟨40, _⟩ => ⟨S8x64, .f32⟩
  | .hbm, ⟨41, _⟩ => ⟨S1x1, .f32⟩
  | .hbm, ⟨42, _⟩ => ⟨S1024x50x1x1, .f32⟩
  | .hbm, ⟨43, _⟩ => ⟨S1024x50x1x64, .f32⟩
  | .hbm, ⟨44, _⟩ => ⟨S1024x50x1x1000, .f32⟩
  | .hbm, ⟨45, _⟩ => ⟨S1024x50, .f32⟩
  | .hbm, ⟨46, _⟩ => ⟨S1024x50x64, .f32⟩
  | .hbm, ⟨47, _⟩ => ⟨S1024x50x1000, .f32⟩
  | .local _ .vmem, ⟨0, _⟩ => ⟨S1024x50, .i32⟩
  | .local _ .vmem, ⟨1, _⟩ => ⟨S1x1000, .f32⟩
  | .local _ .vmem, ⟨2, _⟩ => ⟨S1x64, .f32⟩
  | .local _ .vmem, ⟨3, _⟩ => ⟨S1x64, .f32⟩
  | .local _ .vmem, ⟨4, _⟩ => ⟨S2x64, .f32⟩
  | .local _ .vmem, ⟨5, _⟩ => ⟨S192x128, .f32⟩
  | .local _ .vmem, ⟨6, _⟩ => ⟨S192x64, .f32⟩
  | .local _ .vmem, ⟨7, _⟩ => ⟨S1x192, .f32⟩
  | .local _ .vmem, ⟨8, _⟩ => ⟨S1x192, .f32⟩
  | .local _ .vmem, ⟨9, _⟩ => ⟨S64x64, .f32⟩
  | .local _ .vmem, ⟨10, _⟩ => ⟨S1x64, .f32⟩
  | .local _ .vmem, ⟨11, _⟩ => ⟨S8x64, .f32⟩
  | .local _ .vmem, ⟨12, _⟩ => ⟨S1x1, .f32⟩
  | .local _ .vmem, ⟨13, _⟩ => ⟨S64x192, .f32⟩
  | .local _ .vmem, ⟨14, _⟩ => ⟨S1x64, .f32⟩
  | .local _ .vmem, ⟨15, _⟩ => ⟨S8x64, .f32⟩
  | .local _ .vmem, ⟨16, _⟩ => ⟨S1x1, .f32⟩
  | .local _ .vmem, ⟨17, _⟩ => ⟨S1024x5x1x1, .f32⟩
  | .local _ .vmem, ⟨18, _⟩ => ⟨S1024x5x1x1, .f32⟩
  | .local _ .vmem, ⟨19, _⟩ => ⟨S1024x5x1x64, .f32⟩
  | .local _ .vmem, ⟨20, _⟩ => ⟨S1024x5x1x64, .f32⟩
  | .local _ .vmem, ⟨21, _⟩ => ⟨S1024x5x1x1000, .f32⟩
  | .local _ .vmem, ⟨22, _⟩ => ⟨S1024x5x1x1000, .f32⟩
  | .local _ .vmem, ⟨23, _⟩ => ⟨S1024x64, .f32⟩
  | .local _ .vmem, ⟨24, _⟩ => ⟨S1024x1000, .f32⟩
  | .local _ .vmem, ⟨25, _⟩ => ⟨S1024x50, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18_0 : Ref sig .tc := ⟨.hbm, 42, rfl⟩
abbrev main_v18_1 : Ref sig .tc := ⟨.hbm, 43, rfl⟩
abbrev main_v18_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg17_1 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem17_1 : DmaSem sig := 18
abbrev cc0_sem18_0 : DmaSem sig := 19
abbrev cc0_sem18_1 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨2, ![1, 10], ![false, false]⟩

@[reducible] def k0_t1_loop : Scf.Loop 32 :=
  let c0_i32_2 : BitVec 32 := 0#32
  let c5_i32 : BitVec 32 := 5#32
  let v9 : BitVec 32 := Scalar.addi c0_i32_2 c5_i32
  let c1_i32 : BitVec 32 := 1#32
  ⟨c0_i32_2, v9, c1_i32⟩
def k0_off1 (k0_t1 : Fin k0_t1_loop.trips) : Fin 4 → Nat :=
  let c0_33 : Index := 0#32
  let c0_i32_2 : BitVec 32 := 0#32
  let c1_i32 : BitVec 32 := 1#32
  let arg25 : BitVec 32 := Scf.iv c0_i32_2 c1_i32 k0_t1
  let v85 : Index := Scalar.indexCast arg25
  let c0_34 : Index := 0#32
  let c0_35 : Index := 0#32
  ![0, v85.toNat, 0, 0]
def k0_off2 (k0_t1 : Fin k0_t1_loop.trips) : Fin 4 → Nat :=
  let c0_47 : Index := 0#32
  let c0_i32_2 : BitVec 32 := 0#32
  let c1_i32 : BitVec 32 := 1#32
  let arg25 : BitVec 32 := Scf.iv c0_i32_2 c1_i32 k0_t1
  let v105 : Index := Scalar.indexCast arg25
  let c0_48 : Index := 0#32
  let c0_49 : Index := 0#32
  ![0, v105.toNat, 0, 0]
def k0_off3 (k0_t1 : Fin k0_t1_loop.trips) : Fin 4 → Nat :=
  let c0_74 : Index := 0#32
  let c0_i32_2 : BitVec 32 := 0#32
  let c1_i32 : BitVec 32 := 1#32
  let arg25 : BitVec 32 := Scf.iv c0_i32_2 c1_i32 k0_t1
  let v162 : Index := Scalar.indexCast arg25
  let c0_75 : Index := 0#32
  let c0_76 : Index := 0#32
  ![0, v162.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1024x50 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S192x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1024x5x1x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1024x5x1x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1024x5x1x1000 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== ReferenceIdeal.lean ====
abbrev S1024x50 : Shape := ⟨2, ![1024, 50]⟩
abbrev S1000x1 : Shape := ⟨2, ![1000, 1]⟩
abbrev S64 : Shape := ⟨1, ![64]⟩
abbrev S2x64 : Shape := ⟨2, ![2, 64]⟩
abbrev S192x128 : Shape := ⟨2, ![192, 128]⟩
abbrev S192x64 : Shape := ⟨2, ![192, 64]⟩
abbrev S192 : Shape := ⟨1, ![192]⟩
abbrev S64x64 : Shape := ⟨2, ![64, 64]⟩
abbrev S1x64 : Shape := ⟨2, ![1, 64]⟩
abbrev S1 : Shape := ⟨1, ![1]⟩
abbrev S64x192 : Shape := ⟨2, ![64, 192]⟩
abbrev S_ : Shape := ⟨0, ![]⟩
abbrev S1024x50x1 : Shape := ⟨3, ![1024, 50, 1]⟩
abbrev S1x1x64 : Shape := ⟨3, ![1, 1, 64]⟩
abbrev S1024x50x64 : Shape := ⟨3, ![1024, 50, 64]⟩
abbrev S1024x50x128 : Shape := ⟨3, ![1024, 50, 128]⟩
abbrev S1024x64 : Shape := ⟨2, ![1024, 64]⟩
abbrev S1024x1000 : Shape := ⟨2, ![1024, 1000]⟩
abbrev S50x1024x128 : Shape := ⟨3, ![50, 1024, 128]⟩
abbrev S50x1024 : Shape := ⟨2, ![50, 1024]⟩
abbrev S50x1024x64 : Shape := ⟨3, ![50, 1024, 64]⟩
abbrev S50x1024x1000 : Shape := ⟨3, ![50, 1024, 1000]⟩
abbrev S1x1024x128 : Shape := ⟨3, ![1, 1024, 128]⟩
abbrev S1024x128 : Shape := ⟨2, ![1024, 128]⟩
abbrev S1x1024 : Shape := ⟨2, ![1, 1024]⟩
abbrev S1024 : Shape := ⟨1, ![1024]⟩
abbrev S1x1024x64 : Shape := ⟨3, ![1, 1024, 64]⟩
abbrev S128x192 : Shape := ⟨2, ![128, 192]⟩
abbrev S1024x192 : Shape := ⟨2, ![1024, 192]⟩
abbrev S1x192 : Shape := ⟨2, ![1, 192]⟩
abbrev S1024x1 : Shape := ⟨2, ![1024, 1]⟩
abbrev S1024x1x1 : Shape := ⟨3, ![1024, 1, 1]⟩
abbrev S1x1x1 : Shape := ⟨3, ![1, 1, 1]⟩
abbrev S64x1 : Shape := ⟨2, ![64, 1]⟩
abbrev S1x1 : Shape := ⟨2, ![1, 1]⟩
abbrev S1x1000 : Shape := ⟨2, ![1, 1000]⟩
abbrev S1x1024x1000 : Shape := ⟨3, ![1, 1024, 1000]⟩
abbrev S1024x50x1000 : Shape := ⟨3, ![1024, 50, 1000]⟩

abbrev nBuf : Space → Nat
  | .hbm => 217
  | .vmem => 0
  | .smem => 0
  | _ => 0

abbrev hbmTy0_0 (i : Nat) : BufTy := match i % 128 with
  | 0 => ⟨S1024x50, .i32⟩
  | 1 => ⟨S1024x50, .i32⟩
  | 2 => ⟨S1024x50, .i32⟩
  | 3 => ⟨S1024x50, .i32⟩
  | 4 => ⟨S1024x50, .i32⟩
  | 5 => ⟨S1000x1, .f32⟩
  | 6 => ⟨S64, .f32⟩
  | 7 => ⟨S64, .f32⟩
  | 8 => ⟨S2x64, .f32⟩
  | 9 => ⟨S192x128, .f32⟩
  | 10 => ⟨S192x64, .f32⟩
  | 11 => ⟨S192, .f32⟩
  | 12 => ⟨S192, .f32⟩
  | 13 => ⟨S64x64, .f32⟩
  | 14 => ⟨S64, .f32⟩
  | 15 => ⟨S1x64, .f32⟩
  | 16 => ⟨S1, .f32⟩
  | 17 => ⟨S64x192, .f32⟩
  | 18 => ⟨S64, .f32⟩
  | 19 => ⟨S1x64, .f32⟩
  | 20 => ⟨S1, .f32⟩
  | 21 => ⟨S_, .i32⟩
  | 22 => ⟨S1024x50, .i32⟩
  | 23 => ⟨S1024x50, .i1⟩
  | 24 => ⟨S_, .i32⟩
  | 25 => ⟨S1024x50, .i32⟩
  | 26 => ⟨S1024x50, .i32⟩
  | 27 => ⟨S1024x50, .i32⟩
  | 28 => ⟨S1024x50x1, .i32⟩
  | 29 => ⟨S1024x50x1, .f32⟩
  | 30 => ⟨S1x1x64, .f32⟩
  | 31 => ⟨S1024x50x64, .f32⟩
  | 32 => ⟨S1024x50x64, .f32⟩
  | 33 => ⟨S1024x50x64, .f32⟩
  | 34 => ⟨S_, .i32⟩
  | 35 => ⟨S1024x50, .i32⟩
  | 36 => ⟨S1024x50, .i1⟩
  | 37 => ⟨S_, .i32⟩
  | 38 => ⟨S1024x50, .i32⟩
  | 39 => ⟨S1024x50, .i32⟩
  | 40 => ⟨S1024x50, .i32⟩
  | 41 => ⟨S1024x50x1, .i32⟩
  | 42 => ⟨S1024x50x64, .f32⟩
  | 43 => ⟨S1024x50x128, .f32⟩
  | 44 => ⟨S_, .f32⟩
  | 45 => ⟨S1024x64, .f32⟩
  | 46 => ⟨S_, .f32⟩
  | 47 => ⟨S1024x1000, .f32⟩
  | 48 => ⟨S50x1024x128, .f32⟩
  | 49 => ⟨S50x1024, .i32⟩
  | 50 => ⟨S50x1024x64, .f32⟩
  | 51 => ⟨S50x1024x64, .f32⟩
  | 52 => ⟨S_, .f32⟩
  | 53 => ⟨S50x1024x64, .f32⟩
  | 54 => ⟨S_, .f32⟩
  | 55 => ⟨S50x1024x1000, .f32⟩
  | 56 => ⟨S_, .i32⟩
  | 57 => ⟨S50x1024x128, .f32⟩
  | 58 => ⟨S50x1024, .i32⟩
  | 59 => ⟨S50x1024x64, .f32⟩
  | 60 => ⟨S50x1024x64, .f32⟩
  | 61 => ⟨S192x128, .f32⟩
  | 62 => ⟨S192, .f32⟩
  | 63 => ⟨S192x64, .f32⟩
  | 64 => ⟨S192, .f32⟩
  | 65 => ⟨S64, .f32⟩
  | 66 => ⟨S64x192, .f32⟩
  | 67 => ⟨S64, .f32⟩
  | 68 => ⟨S1x64, .f32⟩
  | 69 => ⟨S1, .f32⟩
  | 70 => ⟨S_, .i32⟩
  | 71 => ⟨S1024x64, .f32⟩
  | 72 => ⟨S1024x1000, .f32⟩
  | 73 => ⟨S50x1024x64, .f32⟩
  | 74 => ⟨S50x1024x1000, .f32⟩
  | 75 => ⟨S_, .i32⟩
  | 76 => ⟨S_, .i1⟩
  | 77 => ⟨S_, .i32⟩
  | 78 => ⟨S_, .i32⟩
  | 79 => ⟨S1x1024x128, .f32⟩
  | 80 => ⟨S1024x128, .f32⟩
  | 81 => ⟨S_, .i32⟩
  | 82 => ⟨S1x1024, .i32⟩
  | 83 => ⟨S1024, .i32⟩
  | 84 => ⟨S_, .i32⟩
  | 85 => ⟨S_, .i32⟩
  | 86 => ⟨S1x1024x64, .f32⟩
  | 87 => ⟨S1024x64, .f32⟩
  | 88 => ⟨S_, .i32⟩
  | 89 => ⟨S_, .i32⟩
  | 90 => ⟨S1x1024x64, .f32⟩
  | 91 => ⟨S1024x64, .f32⟩
  | 92 => ⟨S128x192, .f32⟩
  | 93 => ⟨S1024x192, .f32⟩
  | 94 => ⟨S1x192, .f32⟩
  | 95 => ⟨S1024x192, .f32⟩
  | 96 => ⟨S1024x192, .f32⟩
  | 97 => ⟨S64x192, .f32⟩
  | 98 => ⟨S1024x192, .f32⟩
  | 99 => ⟨S1x192, .f32⟩
  | 100 => ⟨S1024x192, .f32⟩
  | 101 => ⟨S1024x192, .f32⟩
  | 102 => ⟨S1024x64, .f32⟩
  | 103 => ⟨S1024x64, .f32⟩
  | 104 => ⟨S1024x64, .f32⟩
  | 105 => ⟨S1024x64, .f32⟩
  | 106 => ⟨S1024x64, .f32⟩
  | 107 => ⟨S1024x64, .f32⟩
  | 108 => ⟨S1024x64, .f32⟩
  | 109 => ⟨S1024x64, .f32⟩
  | 110 => ⟨S1024x64, .f32⟩
  | 111 => ⟨S_, .f32⟩
  | 112 => ⟨S1024x64, .f32⟩
  | 113 => ⟨S1024x64, .f32⟩
  | 114 => ⟨S_, .f32⟩
  | 115 => ⟨S1024x64, .f32⟩
  | 116 => ⟨S1024x64, .f32⟩
  | 117 => ⟨S1024x64, .f32⟩
  | 118 => ⟨S1024x64, .f32⟩
  | 119 => ⟨S1024x64, .f32⟩
  | 120 => ⟨S_, .f32⟩
  | 121 => ⟨S1024x64, .f32⟩
  | 122 => ⟨S1024x64, .f32⟩
  | 123 => ⟨S_, .f32⟩
  | 124 => ⟨S1024x64, .f32⟩
  | 125 => ⟨S1024x64, .f32⟩
  | 126 => ⟨S1024x64, .f32⟩
  | 127 => ⟨S1024x64, .f32⟩
  | _ => ⟨S1024x50, .i32⟩

abbrev hbmTy0_1 (i : Nat) : BufTy := match i % 128 with
  | 0 => ⟨S1024x64, .f32⟩
  | 1 => ⟨S_, .f32⟩
  | 2 => ⟨S1024x64, .f32⟩
  | 3 => ⟨S1024x64, .f32⟩
  | 4 => ⟨S1024x64, .f32⟩
  | 5 => ⟨S1024x64, .f32⟩
  | 6 => ⟨S1024x64, .f32⟩
  | 7 => ⟨S1024x1, .i32⟩
  | 8 => ⟨S_, .i32⟩
  | 9 => ⟨S1024x1, .i32⟩
  | 10 => ⟨S1024x1, .i1⟩
  | 11 => ⟨S_, .i32⟩
  | 12 => ⟨S1024x1, .i32⟩
  | 13 => ⟨S1024x1, .i32⟩
  | 14 => ⟨S1024x1, .i32⟩
  | 15 => ⟨S1024x1x1, .i32⟩
  | 16 => ⟨S1, .i32⟩
  | 17 => ⟨S_, .i32⟩
  | 18 => ⟨S1024x1x1, .i32⟩
  | 19 => ⟨S1024x1x1, .i1⟩
  | 20 => ⟨S1x1x1, .i32⟩
  | 21 => ⟨S1024x1x1, .i32⟩
  | 22 => ⟨S1024x1x1, .i1⟩
  | 23 => ⟨S1024x1x1, .i1⟩
  | 24 => ⟨S_, .i1⟩
  | 25 => ⟨S1024x1, .i1⟩
  | 26 => ⟨S1024x1, .f32⟩
  | 27 => ⟨S_, .f32⟩
  | 28 => ⟨S1024x1, .f32⟩
  | 29 => ⟨S1024x1, .f32⟩
  | 30 => ⟨S1x64, .f32⟩
  | 31 => ⟨S1024x64, .f32⟩
  | 32 => ⟨S1024x64, .f32⟩
  | 33 => ⟨S1024x64, .f32⟩
  | 34 => ⟨S1024x192, .f32⟩
  | 35 => ⟨S192x64, .f32⟩
  | 36 => ⟨S1024x64, .f32⟩
  | 37 => ⟨S1x64, .f32⟩
  | 38 => ⟨S1024x64, .f32⟩
  | 39 => ⟨S1024x64, .f32⟩
  | 40 => ⟨S_, .f32⟩
  | 41 => ⟨S1024x64, .f32⟩
  | 42 => ⟨S1024x64, .f32⟩
  | 43 => ⟨S64x1, .f32⟩
  | 44 => ⟨S1024x1, .f32⟩
  | 45 => ⟨S1x1, .f32⟩
  | 46 => ⟨S1024x1, .f32⟩
  | 47 => ⟨S1024x1, .f32⟩
  | 48 => ⟨S1024, .f32⟩
  | 49 => ⟨S1024x1, .i32⟩
  | 50 => ⟨S1x1000, .i32⟩
  | 51 => ⟨S1024x1000, .i32⟩
  | 52 => ⟨S1024x1000, .i32⟩
  | 53 => ⟨S1024x1000, .i1⟩
  | 54 => ⟨S1024x1000, .f32⟩
  | 55 => ⟨S_, .f32⟩
  | 56 => ⟨S1024x1000, .f32⟩
  | 57 => ⟨S1024x1000, .f32⟩
  | 58 => ⟨S1024x1000, .f32⟩
  | 59 => ⟨S1024x1, .f32⟩
  | 60 => ⟨S1024x1000, .f32⟩
  | 61 => ⟨S1024x1000, .f32⟩
  | 62 => ⟨S1024x1000, .f32⟩
  | 63 => ⟨S1x1024x64, .f32⟩
  | 64 => ⟨S_, .i32⟩
  | 65 => ⟨S_, .i32⟩
  | 66 => ⟨S50x1024x64, .f32⟩
  | 67 => ⟨S1x1024x1000, .f32⟩
  | 68 => ⟨S_, .i32⟩
  | 69 => ⟨S_, .i32⟩
  | 70 => ⟨S50x1024x1000, .f32⟩
  | 71 => ⟨S_, .i32⟩
  | 72 => ⟨S_, .i32⟩
  | 73 => ⟨S1024x50x64, .f32⟩
  | 74 => ⟨S1024x50x1000, .f32⟩
  | 75 => ⟨S64x64, .f32⟩
  | 76 => ⟨S1024x50x64, .f32⟩
  | 77 => ⟨S1x1x64, .f32⟩
  | 78 => ⟨S1024x50x64, .f32⟩
  | 79 => ⟨S1024x50x64, .f32⟩
  | 80 => ⟨S_, .f32⟩
  | 81 => ⟨S1024x50x64, .f32⟩
  | 82 => ⟨S1024x50x64, .f32⟩
  | 83 => ⟨S64x1, .f32⟩
  | 84 => ⟨S1024x50x1, .f32⟩
  | 85 => ⟨S1x1x1, .f32⟩
  | 86 => ⟨S1024x50x1, .f32⟩
  | 87 => ⟨S1024x50x1, .f32⟩
  | 88 => ⟨S1024x50, .f32⟩
  | _ => ⟨S1024x50, .i32⟩

abbrev hbmTy (i : Nat) : BufTy := match i / 128 with
  | 0 => hbmTy0_0 i
  | 1 => hbmTy0_1 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_1 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_c_6 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev main_v27_3 : Ref sig .tc := ⟨.hbm, 60, rfl⟩
abbrev main_v27_4 : Ref sig .tc := ⟨.hbm, 61, rfl⟩
abbrev main_v27_5 : Ref sig .tc := ⟨.hbm, 62, rfl⟩
abbrev main_v27_6 : Ref sig .tc := ⟨.hbm, 63, rfl⟩
abbrev main_v27_7 : Ref sig .tc := ⟨.hbm, 64, rfl⟩
abbrev main_v27_8 : Ref sig .tc := ⟨.hbm, 65, rfl⟩
abbrev main_v27_9 : Ref sig .tc := ⟨.hbm, 66, rfl⟩
abbrev main_v27_10 : Ref sig .tc := ⟨.hbm, 67, rfl⟩
abbrev main_v27_11 : Ref sig .tc := ⟨.hbm, 68, rfl⟩
abbrev main_v27_12 : Ref sig .tc := ⟨.hbm, 69, rfl⟩
abbrev main_v27_13 : Ref sig .tc := ⟨.hbm, 70, rfl⟩
abbrev main_v27_14 : Ref sig .tc := ⟨.hbm, 71, rfl⟩
abbrev main_v27_15 : Ref sig .tc := ⟨.hbm, 72, rfl⟩
abbrev main_v27_16 : Ref sig .tc := ⟨.hbm, 73, rfl⟩
abbrev main_v27_17 : Ref sig .tc := ⟨.hbm, 74, rfl⟩
abbrev main_while0c_c_24 : Ref sig .tc := ⟨.hbm, 75, rfl⟩
abbrev main_while0c_v42 : Ref sig .tc := ⟨.hbm, 76, rfl⟩
abbrev main_while0b_call0_c : Ref sig .tc := ⟨.hbm, 77, rfl⟩
abbrev main_while0b_call0_c_0 : Ref sig .tc := ⟨.hbm, 78, rfl⟩
abbrev main_while0b_call0_v0 : Ref sig .tc := ⟨.hbm, 79, rfl⟩
abbrev main_while0b_v42 : Ref sig .tc := ⟨.hbm, 80, rfl⟩
abbrev main_while0b_call1_c : Ref sig .tc := ⟨.hbm, 81, rfl⟩
abbrev main_while0b_call1_v0 : Ref sig .tc := ⟨.hbm, 82, rfl⟩
abbrev main_while0b_v43 : Ref sig .tc := ⟨.hbm, 83, rfl⟩
abbrev main_while0b_call2_c : Ref sig .tc := ⟨.hbm, 84, rfl⟩
abbrev main_while0b_call2_c_0 : Ref sig .tc := ⟨.hbm, 85, rfl⟩
abbrev main_while0b_call2_v0 : Ref sig .tc := ⟨.hbm, 86, rfl⟩
abbrev main_while0b_v44 : Ref sig .tc := ⟨.hbm, 87, rfl⟩
abbrev main_while0b_call3_c : Ref sig .tc := ⟨.hbm, 88, rfl⟩
abbrev main_while0b_call3_c_0 : Ref sig .tc := ⟨.hbm, 89, rfl⟩
abbrev main_while0b_call3_v0 : Ref sig .tc := ⟨.hbm, 90, rfl⟩
abbrev main_while0b_v45 : Ref sig .tc := ⟨.hbm, 91, rfl⟩
abbrev main_while0b_v46 : Ref sig .tc := ⟨.hbm, 92, rfl⟩
abbrev main_while0b_v47 : Ref sig .tc := ⟨.hbm, 93, rfl⟩
abbrev main_while0b_v48 : Ref sig .tc := ⟨.hbm, 94, rfl⟩
abbrev main_while0b_v49 : Ref sig .tc := ⟨.hbm, 95, rfl⟩
abbrev main_while0b_v50 : Ref sig .tc := ⟨.hbm, 96, rfl⟩
abbrev main_while0b_v51 : Ref sig .tc := ⟨.hbm, 97, rfl⟩
abbrev main_while0b_v52 : Ref sig .tc := ⟨.hbm, 98, rfl⟩
abbrev main_while0b_v53 : Ref sig .tc := ⟨.hbm, 99, rfl⟩
abbrev main_while0b_v54 : Ref sig .tc := ⟨.hbm, 100, rfl⟩
abbrev main_while0b_v55 : Ref sig .tc := ⟨.hbm, 101, rfl⟩
abbrev main_while0b_v56 : Ref sig .tc := ⟨.hbm, 102, rfl⟩
abbrev main_while0b_v57 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_cst_24 : Ref sig .tc := ⟨.hbm, 111, rfl⟩
abbrev main_while0b_v65 : Ref sig .tc := ⟨.hbm, 112, rfl⟩
abbrev main_while0b_v66 : Ref sig .tc := ⟨.hbm, 113, rfl⟩
abbrev main_while0b_cst_25 : Ref sig .tc := ⟨.hbm, 114, rfl⟩
abbrev main_while0b_v67 : Ref sig .tc := ⟨.hbm, 115, rfl⟩
abbrev main_while0b_v68 : Ref sig .tc := ⟨.hbm, 116, rfl⟩
abbrev main_while0b_v69 : Ref sig .tc := ⟨.hbm, 117, rfl⟩
abbrev main_while0b_v70 : Ref sig .tc := ⟨.hbm, 118, rfl⟩
abbrev main_while0b_v71 : Ref sig .tc := ⟨.hbm, 119, rfl⟩
abbrev main_while0b_cst_26 : Ref sig .tc := ⟨.hbm, 120, rfl⟩
abbrev main_while0b_v72 : Ref sig .tc := ⟨.hbm, 121, rfl⟩
abbrev main_while0b_v73 : Ref sig .tc := ⟨.hbm, 122, rfl⟩
abbrev main_while0b_cst_27 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_cst_28 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_call4_c : Ref sig .tc := ⟨.hbm, 136, rfl⟩
abbrev main_while0b_call4_v0 : Ref sig .tc := ⟨.hbm, 137, rfl⟩
abbrev main_while0b_call4_v1 : Ref sig .tc := ⟨.hbm, 138, rfl⟩
abbrev main_while0b_call4_c_0 : Ref sig .tc := ⟨.hbm, 139, rfl⟩
abbrev main_while0b_call4_v2 : Ref sig .tc := ⟨.hbm, 140, rfl⟩
abbrev main_while0b_call4_v3 : Ref sig .tc := ⟨.hbm, 141, rfl⟩
abbrev main_while0b_call4_v4 : Ref sig .tc := ⟨.hbm, 142, rfl⟩
abbrev main_while0b_call4_v5 : Ref sig .tc := ⟨.hbm, 143, rfl⟩
abbrev main_while0b_call4_c_1 : Ref sig .tc := ⟨.hbm, 144, rfl⟩
abbrev main_while0b_call4_c_2 : Ref sig .tc := ⟨.hbm, 145, rfl⟩
abbrev main_while0b_call4_v6 : Ref sig .tc := ⟨.hbm, 146, rfl⟩
abbrev main_while0b_call4_v7 : Ref sig .tc := ⟨.hbm, 147, rfl⟩
abbrev main_while0b_call4_v8 : Ref sig .tc := ⟨.hbm, 148, rfl⟩
abbrev main_while0b_call4_v9 : Ref sig .tc := ⟨.hbm, 149, rfl⟩
abbrev main_while0b_call4_v10 : Ref sig .tc := ⟨.hbm, 150, rfl⟩
abbrev main_while0b_call4_v11 : Ref sig .tc := ⟨.hbm, 151, rfl⟩
abbrev main_while0b_call4_c_3 : Ref sig .tc := ⟨.hbm, 152, rfl⟩
abbrev main_while0b_call4_v12 : Ref sig .tc := ⟨.hbm, 153, rfl⟩
abbrev main_while0b_call4_v13 : Ref sig .tc := ⟨.hbm, 154, rfl⟩
abbrev main_while0b_call4_cst : Ref sig .tc := ⟨.hbm, 155, rfl⟩
abbrev main_while0b_call4_v14 : Ref sig .tc := ⟨.hbm, 156, rfl⟩
abbrev main_while0b_v85 : Ref sig .tc := ⟨.hbm, 157, rfl⟩
abbrev main_while0b_v86 : Ref sig .tc := ⟨.hbm, 158, rfl⟩
abbrev main_while0b_v87 : Ref sig .tc := ⟨.hbm, 159, rfl⟩
abbrev main_while0b_v88 : Ref sig .tc := ⟨.hbm, 160, rfl⟩
abbrev main_while0b_v89 : Ref sig .tc := ⟨.hbm, 161, rfl⟩
abbrev main_while0b_v90 : Ref sig .tc := ⟨.hbm, 162, rfl⟩
abbrev main_while0b_v91 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_v95 : Ref sig .tc := ⟨.hbm, 167, rfl⟩
abbrev main_while0b_call5_cst : Ref sig .tc := ⟨.hbm, 168, rfl⟩
abbrev main_while0b_call5_v0 : Ref sig .tc := ⟨.hbm, 169, rfl⟩
abbrev main_while0b_v96 : Ref sig .tc := ⟨.hbm, 170, rfl⟩
abbrev main_while0b_v97 : Ref sig .tc := ⟨.hbm, 171, rfl⟩
abbrev main_while0b_v98 : Ref sig .tc := ⟨.hbm, 172, rfl⟩
abbrev main_while0b_v99 : Ref sig .tc := ⟨.hbm, 173, rfl⟩
abbrev main_while0b_v100 : Ref sig .tc := ⟨.hbm, 174, rfl⟩
abbrev main_while0b_v101 : Ref sig .tc := ⟨.hbm, 175, rfl⟩
abbrev main_while0b_v102 : Ref sig .tc := ⟨.hbm, 176, rfl⟩
abbrev main_while0b_call6_v0 : Ref sig .tc := ⟨.hbm, 177, rfl⟩
abbrev main_while0b_call6_v1 : Ref sig .tc := ⟨.hbm, 178, rfl⟩
abbrev main_while0b_call6_v2 : Ref sig .tc := ⟨.hbm, 179, rfl⟩
abbrev main_while0b_call6_v3 : Ref sig .tc := ⟨.hbm, 180, rfl⟩
abbrev main_while0b_call6_v4 : Ref sig .tc := ⟨.hbm, 181, rfl⟩
abbrev main_while0b_v103 : Ref sig .tc := ⟨.hbm, 182, rfl⟩
abbrev main_while0b_cst_29 : Ref sig .tc := ⟨.hbm, 183, rfl⟩
abbrev main_while0b_v104 : Ref sig .tc := ⟨.hbm, 184, rfl⟩
abbrev main_while0b_v105 : Ref sig .tc := ⟨.hbm, 185, rfl⟩
abbrev main_while0b_v106 : Ref sig .tc := ⟨.hbm, 186, rfl⟩
abbrev main_while0b_v107 : Ref sig .tc := ⟨.hbm, 187, rfl⟩
abbrev main_while0b_v108 : Ref sig .tc := ⟨.hbm, 188, rfl⟩
abbrev main_while0b_v109 : Ref sig .tc := ⟨.hbm, 189, rfl⟩
abbrev main_while0b_v110 : Ref sig .tc := ⟨.hbm, 190, rfl⟩
abbrev main_while0b_call7_v0 : Ref sig .tc := ⟨.hbm, 191, rfl⟩
abbrev main_while0b_call7_c : Ref sig .tc := ⟨.hbm, 192, rfl⟩
abbrev main_while0b_call7_c_0 : Ref sig .tc := ⟨.hbm, 193, rfl⟩
abbrev main_while0b_v111 : Ref sig .tc := ⟨.hbm, 194, rfl⟩
abbrev main_while0b_call8_v0 : Ref sig .tc := ⟨.hbm, 195, rfl⟩
abbrev main_while0b_call8_c : Ref sig .tc := ⟨.hbm, 196, rfl⟩
abbrev main_while0b_call8_c_0 : Ref sig .tc := ⟨.hbm, 197, rfl⟩
abbrev main_while0b_v112 : Ref sig .tc := ⟨.hbm, 198, rfl⟩
abbrev main_while0b_c_30 : Ref sig .tc := ⟨.hbm, 199, rfl⟩
abbrev main_while0b_v113 : Ref sig .tc := ⟨.hbm, 200, rfl⟩
abbrev main_v28 : Ref sig .tc := ⟨.hbm, 201, rfl⟩
abbrev main_v29 : Ref sig .tc := ⟨.hbm, 202, rfl⟩
abbrev main_v30 : Ref sig .tc := ⟨.hbm, 203, rfl⟩
abbrev main_v31 : Ref sig .tc := ⟨.hbm, 204, rfl⟩
abbrev main_v32 : Ref sig .tc := ⟨.hbm, 205, rfl⟩
abbrev main_v33 : Ref sig .tc := ⟨.hbm, 206, rfl⟩
abbrev main_v34 : Ref sig .tc := ⟨.hbm, 207, rfl⟩
abbrev main_call9_cst : Ref sig .tc := ⟨.hbm, 208, rfl⟩
abbrev main_call9_v0 : Ref sig .tc := ⟨.hbm, 209, rfl⟩
abbrev main_v35 : Ref sig .tc := ⟨.hbm, 210, rfl⟩
abbrev main_v36 : Ref sig .tc := ⟨.hbm, 211, rfl⟩
abbrev main_v37 : Ref sig .tc := ⟨.hbm, 212, rfl⟩
abbrev main_v38 : Ref sig .tc := ⟨.hbm, 213, rfl⟩
abbrev main_v39 : Ref sig .tc := ⟨.hbm, 214, rfl⟩
abbrev main_v40 : Ref sig .tc := ⟨.hbm, 215, rfl⟩
abbrev main_v41 : Ref sig .tc := ⟨.hbm, 216, rfl⟩

abbrev nD : Nat := 1
abbrev τ : Topo := Topo.v7x

variable {F : FTy → Type} [FloatOps F]

abbrev main_while0_count : Scf.Loop 32 := ⟨0#32, 50#32, 1#32⟩
-- ==== Proof.KernelIdealStep.lean ====
/- One time step of the kernel as a function: what a trip of its loop makes of the scratch buffers and the rows it
   writes, and the state and output blocks a grid point reaches by its five trips. -/
module

public import proofs.«01_k».proof.Proof.Gen.KernelIdeal.Frame
public import proofs.«01_k».proof.Proof.Gen.KernelIdeal.Loops

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the kernel reads at every trip: the packed ids and the weights, as the region's staging buffers hold them. -/
structure Ins (F : FTy → Type) [FloatOps F] where
  packed : Vec F S1024x50 .i32
  D : Vec F S1x1000 .f32
  vd : Vec F S1x64 .f32
  vc : Vec F S1x64 .f32
  R : Vec F S2x64 .f32
  Wih : Vec F S192x128 .f32
  Whh : Vec F S192x64 .f32
  bih : Vec F S1x192 .f32
  bhh : Vec F S1x192 .f32
  W1a : Vec F S64x64 .f32
  b1a : Vec F S1x64 .f32
  W1b : Vec F S8x64 .f32
  b1b : Vec F S1x1 .f32
  W2a : Vec F S64x192 .f32
  b2a : Vec F S1x64 .f32
  W2b : Vec F S8x64 .f32
  b2b : Vec F S1x1 .f32

/-- The kernel's scratch: the hidden states, the concept tables, and the values written so far per time step. -/
structure Scr (F : FTy → Type) [FloatOps F] where
  h : Vec F S1024x64 .f32
  C : Vec F S1024x1000 .f32
  hist : Vec F S1024x50 .f32

/-- The time-step number of every column of a `1024 × 50` array. -/
abbrev stepCols : IVec S1024x50 32 := iota .tc S1024x50 32 [1] iota_S1024x50_d1_w32
/-- The concept number of every column of a `1024 × 1000` array. -/
abbrev conceptCols : IVec S1024x1000 32 := iota .tc S1024x1000 32 [1] iota_S1024x1000_d1_w32

variable (I : Ins F) (a : BitVec 32) (k : Fin k0_t1_loop.trips) (s : Scr F)

/-- The time step's number: five per grid point, and the trip. -/
abbrev stepNo : BitVec 32 := Scalar.addi (Scalar.muli a 5#32) (Scf.iv 0#32 1#32 k)
/-- The columns of the time step. -/
abbrev atStep : IVec S1024x50 1 := k0_pay6 a stepCols 0#32 1#32 k
/-- The step's concept ids. -/
abbrev concept : IVec S1024x1 32 := k0_pay8 a (k0_pay4 I.packed) stepCols 0#32 1#32 k
/-- The step's difficulty rows. -/
abbrev vdRow : FVec F S1024x64 .f32 := k0_pay9 a (k0_pay4 I.packed) stepCols conceptCols 0#32 1#32 k I.D I.vd
/-- Whether the step's response is 1. -/
abbrev isR1 : IVec S1024x64 1 := k0_pay10 a (k0_pay4 I.packed) stepCols 0#32 1#32 k
/-- The response table's second row, on every batch row. -/
abbrev row1 : FVec F S1024x64 .f32 := k0_pay11 (View.ld I.R (Rect.unit (s := S2x64) ![1, 0] S1x64.size inb_S2x64_S1x64_1_0))
/-- The response table's first row, on every batch row. -/
abbrev row0 : FVec F S1024x64 .f32 := k0_pay12 (View.ld I.R (Rect.unit (s := S2x64) ![0, 0] S1x64.size inb_S2x64_S1x64_0_0))
/-- The step's response rows. -/
abbrev vrRow : FVec F S1024x64 .f32 := k0_pay13 (isR1 I a k) (row1 I) (row0 I)
/-- The hidden states after the step. -/
abbrev hNew : FVec F S1024x64 .f32 := k0_pay14 (vdRow I a k) (isR1 I a k) (row1 I) (row0 I) s.h I.Wih I.bih I.Whh I.bhh
/-- The step's current mastery, read from the history. -/
abbrev mastery : FVec F S1024x64 .f32 := k0_pay19 (k0_pay5 I.packed) stepCols (stepNo a k) (concept I a k) s.hist

/-- The scratch after the trip. -/
def trip : Scr F where
  h := k0_pay15 (vdRow I a k) (isR1 I a k) (row1 I) (row0 I) s.h I.Wih I.bih I.Whh I.bhh
  C := k0_pay23 conceptCols (concept I a k) (vdRow I a k) (vrRow I a k) (k0_pay18 I.vc) (mastery I a k s) I.W2a I.b2a I.W2b I.b2b s.C
  hist := k0_pay21 (atStep a k) (vdRow I a k) (vrRow I a k) s.hist (k0_pay18 I.vc) (mastery I a k s) I.W2a I.b2a I.W2b I.b2b

/-- The rows the trip writes: the readout, -/
def tripA : FVec F S1024x1x1x1 .f32 := k0_pay17 (hNew I a k s) I.W1a I.b1a I.W1b I.b1b
/-- the hidden states, -/
def tripH : FVec F S1024x1x1x64 .f32 :=
  k0_pay16 (vdRow I a k) (isR1 I a k) (row1 I) (row0 I) s.h I.Wih I.bih I.Whh I.bhh
/-- and the concept tables. -/
def tripC : FVec F S1024x1x1x1000 .f32 :=
  k0_pay24 conceptCols (concept I a k) (vdRow I a k) (vrRow I a k) (k0_pay18 I.vc) (mastery I a k s) I.W2a I.b2a I.W2b I.b2b s.C

/-- The scratch before trip `k` of a point entered with scratch `s`. -/
def scrAt : ℕ → Scr F
  | 0 => s
  | k + 1 => if hk : k < k0_t1_loop.trips then trip I a ⟨k, hk⟩ (scrAt k) else scrAt k

theorem scrAt_succ : scrAt I a s (k.val + 1) = trip I a k (scrAt I a s k.val) := by
  rw [scrAt, dif_pos k.isLt]

/-- A point makes five trips. -/
theorem trips_eq : k0_t1_loop.trips = 5 := by decide +kernel

/-- The trip that writes row `j` of a block. -/
abbrev rowTrip (j : Fin 5) : Fin k0_t1_loop.trips := ⟨j.val, by rw [trips_eq]; exact j.isLt⟩

/-- The place, in one trip's rows, of an index of a block. -/
def rowA (y : S1024x5x1x1.Idx) : S1024x1x1x1.Idx
  | ⟨0, _⟩ => y 0 | ⟨1, _⟩ => (0 : Fin 1) | ⟨2, _⟩ => y 2 | ⟨3, _⟩ => y 3
/-- The same for the hidden states' block, -/
def rowH (y : S1024x5x1x64.Idx) : S1024x1x1x64.Idx
  | ⟨0, _⟩ => y 0 | ⟨1, _⟩ => (0 : Fin 1) | ⟨2, _⟩ => y 2 | ⟨3, _⟩ => y 3
/-- and for the concept tables' block. -/
def rowC (y : S1024x5x1x1000.Idx) : S1024x1x1x1000.Idx
  | ⟨0, _⟩ => y 0 | ⟨1, _⟩ => (0 : Fin 1) | ⟨2, _⟩ => y 2 | ⟨3, _⟩ => y 3

/-- The readout block of a point: row `j` from trip `j`. -/
def blockA : Vec F S1024x5x1x1 .f32 := fun y => tripA I a (rowTrip (y 1)) (scrAt I a s (y 1).val) (rowA y)
/-- The hidden states' block of a point. -/
def blockH : Vec F S1024x5x1x64 .f32 := fun y => tripH I a (rowTrip (y 1)) (scrAt I a s (y 1).val) (rowH y)
/-- The concept tables' block of a point. -/
def blockC : Vec F S1024x5x1x1000 .f32 := fun y => tripC I a (rowTrip (y 1)) (scrAt I a s (y 1).val) (rowC y)

/-- The scratch the first point starts from. -/
def zeroScr : Scr F := ⟨k0_pay1, k0_pay2, k0_pay3⟩

/-- The scratch point `n` starts its trips with. -/
def pointScr : ℕ → Scr F
  | 0 => zeroScr
  | n + 1 => scrAt I (BitVec.ofNat 32 n) (pointScr n) 5

end Cert.Proof.KernelIdeal

end
-- ==== Proof.KernelIdealLoop.lean ====
/- The loop of the kernel's body goes through its five trips by an invariant: before trip `k` the scratch holds
   the state of `k` trips and the output blocks hold the rows of the trips before `k`. -/
module

public import proofs.«01_k».proof.Proof.KernelIdealStep
public import Idealize.ShloMosaic.Lib.VecWindow
public import Idealize.ShloMosaic.Lib.WritesUnit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Rows

variable (I : Ins F) (a : BitVec 32) (k : Fin k0_t1_loop.trips) (s : Scr F)

/-- A readout block whose rows before `k` are a point's, with trip `k`'s rows stored at row `k`, has its rows before
    `k + 1`. -/
theorem rowsA {arg : Memref sig .tc .vmem S1024x5x1x1 .f32} {f : arg.view.ty.Contents (Elt F)} {L : List (View.Piece (Elt F) S1024x5x1x1 .f32)}
    (h : ∀ y : S1024x5x1x1.Idx, (y 1).val < k.val → arg.view.read (Elt F) (arg.view.writes (Elt F) f L) y = blockA I a s y)
    {w : Vec F S1024x1x1x1 .f32} (hw : w = tripA I a k (scrAt I a s k.val)) (y : S1024x5x1x1.Idx) (hy : (y 1).val < k.val + 1) :
    arg.view.read (Elt F) (arg.view.writes (Elt F) f (⟨Rect.unit (s := S1024x5x1x1) (k0_off2 k) S1024x1x1x1.size (k0_off2_inb k), w⟩ :: L)) y
      = blockA I a s y := by
  by_cases e : (y 1).val = k.val
  · have ek : rowTrip (y 1) = k := Fin.ext e
    refine (View.read_writes_cons_unit_of_mem (s := S1024x5x1x1) arg.view f (k0_off2_inb k) w L y (rowA y) (k0_off2_eq k) ?_).trans ?_
    rotate_left
    · unfold blockA; rw [ek, e, hw]
    · intro b
      match b with
      | ⟨0, _⟩ => exact (Nat.zero_add _).symm
      | ⟨1, _⟩ => exact e
      | ⟨2, _⟩ => exact (Nat.zero_add _).symm
      | ⟨3, _⟩ => exact (Nat.zero_add _).symm
  · refine (View.read_writes_cons_unit_of_not_mem (s := S1024x5x1x1) arg.view f (k0_off2_inb k) w L y (k0_off2_eq k) 1 ?_).trans ?_
    rotate_left
    · exact h y (by omega)
    · left; show (y 1).val < k.val; omega

/-- The same for the hidden states' block, -/
theorem rowsH {arg : Memref sig .tc .vmem S1024x5x1x64 .f32} {f : arg.view.ty.Contents (Elt F)} {L : List (View.Piece (Elt F) S1024x5x1x64 .f32)}
    (h : ∀ y : S1024x5x1x64.Idx, (y 1).val < k.val → arg.view.read (Elt F) (arg.view.writes (Elt F) f L) y = blockH I a s y)
    {w : Vec F S1024x1x1x64 .f32} (hw : w = tripH I a k (scrAt I a s k.val)) (y : S1024x5x1x64.Idx) (hy : (y 1).val < k.val + 1) :
    arg.view.read (Elt F) (arg.view.writes (Elt F) f (⟨Rect.unit (s := S1024x5x1x64) (k0_off1 k) S1024x1x1x64.size (k0_off1_inb k), w⟩ :: L)) y
      = blockH I a s y := by
  by_cases e : (y 1).val = k.val
  · have ek : rowTrip (y 1) = k := Fin.ext e
    refine (View.read_writes_cons_unit_of_mem (s := S1024x5x1x64) arg.view f (k0_off1_inb k) w L y (rowH y) (k0_off1_eq k) ?_).trans ?_
    rotate_left
    · unfold blockH; rw [ek, e, hw]
    · intro b
      match b with
      | ⟨0, _⟩ => exact (Nat.zero_add _).symm
      | ⟨1, _⟩ => exact e
      | ⟨2, _⟩ => exact (Nat.zero_add _).symm
      | ⟨3, _⟩ => exact (Nat.zero_add _).symm
  · refine (View.read_writes_cons_unit_of_not_mem (s := S1024x5x1x64) arg.view f (k0_off1_inb k) w L y (k0_off1_eq k) 1 ?_).trans ?_
    rotate_left
    · exact h y (by omega)
    · left; show (y 1).val < k.val; omega

/-- and for the concept tables' block. -/
theorem rowsC {arg : Memref sig .tc .vmem S1024x5x1x1000 .f32} {f : arg.view.ty.Contents (Elt F)} {L : List (View.Piece (Elt F) S1024x5x1x1000 .f32)}
    (h : ∀ y : S1024x5x1x1000.Idx, (y 1).val < k.val → arg.view.read (Elt F) (arg.view.writes (Elt F) f L) y = blockC I a s y)
    {w : Vec F S1024x1x1x1000 .f32} (hw : w = tripC I a k (scrAt I a s k.val)) (y : S1024x5x1x1000.Idx) (hy : (y 1).val < k.val + 1) :
    arg.view.read (Elt F) (arg.view.writes (Elt F) f (⟨Rect.unit (s := S1024x5x1x1000) (k0_off3 k) S1024x1x1x1000.size (k0_off3_inb k), w⟩ :: L)) y
      = blockC I a s y := by
  by_cases e : (y 1).val = k.val
  · have ek : rowTrip (y 1) = k := Fin.ext e
    refine (View.read_writes_cons_unit_of_mem (s := S1024x5x1x1000) arg.view f (k0_off3_inb k) w L y (rowC y) (k0_off3_eq k) ?_).trans ?_
    rotate_left
    · unfold blockC; rw [ek, e, hw]
    · intro b
      match b with
      | ⟨0, _⟩ => exact (Nat.zero_add _).symm
      | ⟨1, _⟩ => exact e
      | ⟨2, _⟩ => exact (Nat.zero_add _).symm
      | ⟨3, _⟩ => exact (Nat.zero_add _).symm
  · refine (View.read_writes_cons_unit_of_not_mem (s := S1024x5x1x1000) arg.view f (k0_off3_inb k) w L y (k0_off3_eq k) 1 ?_).trans ?_
    rotate_left
    · exact h y (by omega)
    · left; show (y 1).val < k.val; omega

end Rows

/-- What the input buffers hold, from their contents. -/
def insOf (arg3 : Memref sig .tc .vmem S1x1000 .f32) (arg4 : Memref sig .tc .vmem S1x64 .f32) (arg5 : Memref sig .tc .vmem S1x64 .f32) (arg6 : Memref sig .tc .vmem S2x64 .f32) (arg7 : Memref sig .tc .vmem S192x128 .f32) (arg8 : Memref sig .tc .vmem S192x64 .f32) (arg9 : Memref sig .tc .vmem S1x192 .f32) (arg10 : Memref sig .tc .vmem S1x192 .f32) (arg11 : Memref sig .tc .vmem S64x64 .f32) (arg12 : Memref sig .tc .vmem S1x64 .f32) (arg13 : Memref sig .tc .vmem S8x64 .f32) (arg14 : Memref sig .tc .vmem S1x1 .f32) (arg15 : Memref sig .tc .vmem S64x192 .f32) (arg16 : Memref sig .tc .vmem S1x64 .f32) (arg17 : Memref sig .tc .vmem S8x64 .f32) (arg18 : Memref sig .tc .vmem S1x1 .f32) (v3 : Vec F S1024x50 .i32) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) : Ins F :=
  ⟨v3, arg3.view.read (Elt F) f3, arg4.view.read (Elt F) f4, arg5.view.read (Elt F) f5, arg6.view.read (Elt F) f6, arg7.view.read (Elt F) f7, arg8.view.read (Elt F) f8, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18⟩

/-- The loop's invariant before trip `k`, of the inputs' contents and the scratch the loop was entered with: the inputs as they were, the
    scratch at the state of `k` trips, the rows of the output blocks before `k` the point's. -/
def inv (c : Dev nD) (arg2 : Memref sig .tc .vmem S1024x50 .i32) (arg3 : Memref sig .tc .vmem S1x1000 .f32) (arg4 : Memref sig .tc .vmem S1x64 .f32) (arg5 : Memref sig .tc .vmem S1x64 .f32) (arg6 : Memref sig .tc .vmem S2x64 .f32) (arg7 : Memref sig .tc .vmem S192x128 .f32) (arg8 : Memref sig .tc .vmem S192x64 .f32) (arg9 : Memref sig .tc .vmem S1x192 .f32) (arg10 : Memref sig .tc .vmem S1x192 .f32) (arg11 : Memref sig .tc .vmem S64x64 .f32) (arg12 : Memref sig .tc .vmem S1x64 .f32) (arg13 : Memref sig .tc .vmem S8x64 .f32) (arg14 : Memref sig .tc .vmem S1x1 .f32) (arg15 : Memref sig .tc .vmem S64x192 .f32) (arg16 : Memref sig .tc .vmem S1x64 .f32) (arg17 : Memref sig .tc .vmem S8x64 .f32) (arg18 : Memref sig .tc .vmem S1x1 .f32) (arg19 : Memref sig .tc .vmem S1024x5x1x1 .f32) (arg20 : Memref sig .tc .vmem S1024x5x1x64 .f32) (arg21 : Memref sig .tc .vmem S1024x5x1x1000 .f32) (arg22 : Memref sig .tc .vmem S1024x64 .f32) (arg23 : Memref sig .tc .vmem S1024x1000 .f32) (arg24 : Memref sig .tc .vmem S1024x50 .f32) (arg1 : BitVec 32) (v3 : Vec F S1024x50 .i32)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (s0 : Scr F) (k : ℕ) (_ : Unit) : sProp 𝕄 :=
  iprop((arg2.view.loc (c : Thread nD τ) ↦{fullShare} f2) ∗ (arg3.view.loc (c : Thread nD τ) ↦{fullShare} f3) ∗ (arg4.view.loc (c : Thread nD τ) ↦{fullShare} f4) ∗ (arg5.view.loc (c : Thread nD τ) ↦{fullShare} f5) ∗ (arg6.view.loc (c : Thread nD τ) ↦{fullShare} f6) ∗ (arg7.view.loc (c : Thread nD τ) ↦{fullShare} f7) ∗ (arg8.view.loc (c : Thread nD τ) ↦{fullShare} f8) ∗ (arg9.view.loc (c : Thread nD τ) ↦{fullShare} f9) ∗ (arg10.view.loc (c : Thread nD τ) ↦{fullShare} f10) ∗ (arg11.view.loc (c : Thread nD τ) ↦{fullShare} f11) ∗ (arg12.view.loc (c : Thread nD τ) ↦{fullShare} f12) ∗ (arg13.view.loc (c : Thread nD τ) ↦{fullShare} f13) ∗ (arg14.view.loc (c : Thread nD τ) ↦{fullShare} f14) ∗ (arg15.view.loc (c : Thread nD τ) ↦{fullShare} f15) ∗ (arg16.view.loc (c : Thread nD τ) ↦{fullShare} f16) ∗ (arg17.view.loc (c : Thread nD τ) ↦{fullShare} f17) ∗ (arg18.view.loc (c : Thread nD τ) ↦{fullShare} f18)
    ∗ (∃ f, (arg19.view.loc (c : Thread nD τ) ↦{fullShare} f) ∗ ⌜∀ y : S1024x5x1x1.Idx, (y 1).val < k → arg19.view.read (Elt F) f y = blockA (insOf arg3 arg4 arg5 arg6 arg7 arg8 arg9 arg10 arg11 arg12 arg13 arg14 arg15 arg16 arg17 arg18 v3 f3 f4 f5 f6 f7 f8 f9 f10 f11 f12 f13 f14 f15 f16 f17 f18) arg1 s0 y⌝)
    ∗ (∃ f, (arg20.view.loc (c : Thread nD τ) ↦{fullShare} f) ∗ ⌜∀ y : S1024x5x1x64.Idx, (y 1).val < k → arg20.view.read (Elt F) f y = blockH (insOf arg3 arg4 arg5 arg6 arg7 arg8 arg9 arg10 arg11 arg12 arg13 arg14 arg15 arg16 arg17 arg18 v3 f3 f4 f5 f6 f7 f8 f9 f10 f11 f12 f13 f14 f15 f16 f17 f18) arg1 s0 y⌝)
    ∗ (∃ f, (arg21.view.loc (c : Thread nD τ) ↦{fullShare} f) ∗ ⌜∀ y : S1024x5x1x1000.Idx, (y 1).val < k → arg21.view.read (Elt F) f y = blockC (insOf arg3 arg4 arg5 arg6 arg7 arg8 arg9 arg10 arg11 arg12 arg13 arg14 arg15 arg16 arg17 arg18 v3 f3 f4 f5 f6 f7 f8 f9 f10 f11 f12 f13 f14 f15 f16 f17 f18) arg1 s0 y⌝)
    ∗ (∃ f, (arg22.view.loc (c : Thread nD τ) ↦{fullShare} f) ∗ ⌜arg22.view.read (Elt F) f = (scrAt (insOf arg3 arg4 arg5 arg6 arg7 arg8 arg9 arg10 arg11 arg12 arg13 arg14 arg15 arg16 arg17 arg18 v3 f3 f4 f5 f6 f7 f8 f9 f10 f11 f12 f13 f14 f15 f16 f17 f18) arg1 s0 k).h⌝)
    ∗ (∃ f, (arg23.view.loc (c : Thread nD τ) ↦{fullShare} f) ∗ ⌜arg23.view.read (Elt F) f = (scrAt (insOf arg3 arg4 arg5 arg6 arg7 arg8 arg9 arg10 arg11 arg12 arg13 arg14 arg15 arg16 arg17 arg18 v3 f3 f4 f5 f6 f7 f8 f9 f10 f11 f12 f13 f14 f15 f16 f17 f18) arg1 s0 k).C⌝)
    ∗ (∃ f, (arg24.view.loc (c : Thread nD τ) ↦{fullShare} f) ∗ ⌜arg24.view.read (Elt F) f = (scrAt (insOf arg3 arg4 arg5 arg6 arg7 arg8 arg9 arg10 arg11 arg12 arg13 arg14 arg15 arg16 arg17 arg18 v3 f3 f4 f5 f6 f7 f8 f9 f10 f11 f12 f13 f14 f15 f16 f17 f18) arg1 s0 k).hist⌝))

/-- One trip: the loads read the state of the trips before, the stores leave the state and the rows after. -/
theorem inv_step (c : Dev nD) (i : grid0.Coords) (arg2 : Memref sig .tc .vmem S1024x50 .i32) (harg2 : arg2.IsWhole) (arg3 : Memref sig .tc .vmem S1x1000 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S192x128 .f32) (harg7 : arg7.IsWhole) (arg8 : Memref sig .tc .vmem S192x64 .f32) (harg8 : arg8.IsWhole) (arg9 : Memref sig .tc .vmem S1x192 .f32) (harg9 : arg9.IsWhole) (arg10 : Memref sig .tc .vmem S1x192 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S8x64 .f32) (harg13 : arg13.IsWhole) (arg14 : Memref sig .tc .vmem S1x1 .f32) (harg14 : arg14.IsWhole) (arg15 : Memref sig .tc .vmem S64x192 .f32) (harg15 : arg15.IsWhole) (arg16 : Memref sig .tc .vmem S1x64 .f32) (harg16 : arg16.IsWhole) (arg17 : Memref sig .tc .vmem S8x64 .f32) (harg17 : arg17.IsWhole) (arg18 : Memref sig .tc .vmem S1x1 .f32) (harg18 : arg18.IsWhole) (arg19 : Memref sig .tc .vmem S1024x5x1x1 .f32) (harg19 : arg19.IsWhole) (arg20 : Memref sig .tc .vmem S1024x5x1x64 .f32) (harg20 : arg20.IsWhole) (arg21 : Memref sig .tc .vmem S1024x5x1x1000 .f32) (harg21 : arg21.IsWhole) (arg22 : Memref sig .tc .vmem S1024x64 .f32) (harg22 : arg22.IsWhole) (arg23 : Memref sig .tc .vmem S1024x1000 .f32) (harg23 : arg23.IsWhole) (arg24 : Memref sig .tc .vmem S1024x50 .f32) (harg24 : arg24.IsWhole) (arg1 : BitVec 32) (v3 : Vec F S1024x50 .i32)
    (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (s0 : Scr F) (k : Fin k0_t1_loop.trips) (acc : Unit) :
    inv (F := F) c arg2 arg3 arg4 arg5 arg6 arg7 arg8 arg9 arg10 arg11 arg12 arg13 arg14 arg15 arg16 arg17 arg18 arg19 arg20 arg21 arg22 arg23 arg24 arg1 v3 f2 f3 f4 f5 f6 f7 f8 f9 f10 f11 f12 f13 f14 f15 f16 f17 f18 s0 k acc
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg1 v3 stepCols conceptCols k acc)
        (inv (F := F) c arg2 arg3 arg4 arg5 arg6 arg7 arg8 arg9 arg10 arg11 arg12 arg13 arg14 arg15 arg16 arg17 arg18 arg19 arg20 arg21 arg22 arg23 arg24 arg1 v3 f2 f3 f4 f5 f6 f7 f8 f9 f10 f11 f12 f13 f14 f15 f16 f17 f18 s0 (k.val + 1)) := by
  unfold inv k0_t1_body
  simp only [k0_part1_eq_skeleton, k0_part2_eq_skeleton, k0_part3_eq_skeleton, k0_part4_eq_skeleton]
  unfold k0_part1_skel k0_part2_skel k0_part3_skel k0_part4_skel
  iintro ⟨H2, H3, H4, H5, H6, H7, H8, H9, H10, H11, H12, H13, H14, H15, H16, H17, H18, ⟨%g19, H19, %e19⟩, ⟨%g20, H20, %e20⟩, ⟨%g21, H21, %e21⟩, ⟨%g22, H22, %e22⟩, ⟨%g23, H23, %e23⟩, ⟨%g24, H24, %e24⟩⟩
  sl_exec
  sl_step
  have L3 : arg3.view.readAt (Elt F) (Rect.unit (s := S1x1000) ![0, 0] S1x1000.size inb_S1x1000_S1x1000_0_0).toLoadRect f3 = arg3.view.read (Elt F) f3 := View.readAt_full _ _ _
  have L4 : arg4.view.readAt (Elt F) (Rect.unit (s := S1x64) ![0, 0] S1x64.size inb_S1x64_S1x64_0_0).toLoadRect f4 = arg4.view.read (Elt F) f4 := View.readAt_full _ _ _
  have L5 : arg5.view.readAt (Elt F) (Rect.unit (s := S1x64) ![0, 0] S1x64.size inb_S1x64_S1x64_0_0).toLoadRect f5 = arg5.view.read (Elt F) f5 := View.readAt_full _ _ _
  have L7 : arg7.view.readAt (Elt F) (Rect.unit (s := S192x128) ![0, 0] S192x128.size inb_S192x128_S192x128_0_0).toLoadRect f7 = arg7.view.read (Elt F) f7 := View.readAt_full _ _ _
  have L8 : arg8.view.readAt (Elt F) (Rect.unit (s := S192x64) ![0, 0] S192x64.size inb_S192x64_S192x64_0_0).toLoadRect f8 = arg8.view.read (Elt F) f8 := View.readAt_full _ _ _
  have L9 : arg9.view.readAt (Elt F) (Rect.unit (s := S1x192) ![0, 0] S1x192.size inb_S1x192_S1x192_0_0).toLoadRect f9 = arg9.view.read (Elt F) f9 := View.readAt_full _ _ _
  have L10 : arg10.view.readAt (Elt F) (Rect.unit (s := S1x192) ![0, 0] S1x192.size inb_S1x192_S1x192_0_0).toLoadRect f10 = arg10.view.read (Elt F) f10 := View.readAt_full _ _ _
  have L11 : arg11.view.readAt (Elt F) (Rect.unit (s := S64x64) ![0, 0] S64x64.size inb_S64x64_S64x64_0_0).toLoadRect f11 = arg11.view.read (Elt F) f11 := View.readAt_full _ _ _
  have L12 : arg12.view.readAt (Elt F) (Rect.unit (s := S1x64) ![0, 0] S1x64.size inb_S1x64_S1x64_0_0).toLoadRect f12 = arg12.view.read (Elt F) f12 := View.readAt_full _ _ _
  have L13 : arg13.view.readAt (Elt F) (Rect.unit (s := S8x64) ![0, 0] S8x64.size inb_S8x64_S8x64_0_0).toLoadRect f13 = arg13.view.read (Elt F) f13 := View.readAt_full _ _ _
  have L14 : arg14.view.readAt (Elt F) (Rect.unit (s := S1x1) ![0, 0] S1x1.size inb_S1x1_S1x1_0_0).toLoadRect f14 = arg14.view.read (Elt F) f14 := View.readAt_full _ _ _
  have L15 : arg15.view.readAt (Elt F) (Rect.unit (s := S64x192) ![0, 0] S64x192.size inb_S64x192_S64x192_0_0).toLoadRect f15 = arg15.view.read (Elt F) f15 := View.readAt_full _ _ _
  have L16 : arg16.view.readAt (Elt F) (Rect.unit (s := S1x64) ![0, 0] S1x64.size inb_S1x64_S1x64_0_0).toLoadRect f16 = arg16.view.read (Elt F) f16 := View.readAt_full _ _ _
  have L17 : arg17.view.readAt (Elt F) (Rect.unit (s := S8x64) ![0, 0] S8x64.size inb_S8x64_S8x64_0_0).toLoadRect f17 = arg17.view.read (Elt F) f17 := View.readAt_full _ _ _
  have L18 : arg18.view.readAt (Elt F) (Rect.unit (s := S1x1) ![0, 0] S1x1.size inb_S1x1_S1x1_0_0).toLoadRect f18 = arg18.view.read (Elt F) f18 := View.readAt_full _ _ _
  have L22 : arg22.view.readAt (Elt F) (Rect.unit (s := S1024x64) ![0, 0] S1024x64.size inb_S1024x64_S1024x64_0_0).toLoadRect g22 = arg22.view.read (Elt F) g22 := View.readAt_full _ _ _
  have L23 : arg23.view.readAt (Elt F) (Rect.unit (s := S1024x1000) ![0, 0] S1024x1000.size inb_S1024x1000_S1024x1000_0_0).toLoadRect g23 = arg23.view.read (Elt F) g23 := View.readAt_full _ _ _
  have L24 : arg24.view.readAt (Elt F) (Rect.unit (s := S1024x50) ![0, 0] S1024x50.size inb_S1024x50_S1024x50_0_0).toLoadRect g24 = arg24.view.read (Elt F) g24 := View.readAt_full _ _ _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · iexists _; isplitl [H19]; · iexact H19
    ipureintro
    refine rowsA (insOf arg3 arg4 arg5 arg6 arg7 arg8 arg9 arg10 arg11 arg12 arg13 arg14 arg15 arg16 arg17 arg18 v3 f3 f4 f5 f6 f7 f8 f9 f10 f11 f12 f13 f14 f15 f16 f17 f18) arg1 k s0 (L := []) e19 ?_
    simp only [L3, L4, L5, L7, L8, L9, L10, L11, L12, L13, L14, L15, L16, L17, L18, L22, L23, L24]
    rw [e22]
    rfl
  isplitl [H20]
  · iexists _; isplitl [H20]; · iexact H20
    ipureintro
    refine rowsH (insOf arg3 arg4 arg5 arg6 arg7 arg8 arg9 arg10 arg11 arg12 arg13 arg14 arg15 arg16 arg17 arg18 v3 f3 f4 f5 f6 f7 f8 f9 f10 f11 f12 f13 f14 f15 f16 f17 f18) arg1 k s0 (L := []) e20 ?_
    simp only [L3, L4, L5, L7, L8, L9, L10, L11, L12, L13, L14, L15, L16, L17, L18, L22, L23, L24]
    rw [e22]
    rfl
  isplitl [H21]
  · iexists _; isplitl [H21]; · iexact H21
    ipureintro
    refine rowsC (insOf arg3 arg4 arg5 arg6 arg7 arg8 arg9 arg10 arg11 arg12 arg13 arg14 arg15 arg16 arg17 arg18 v3 f3 f4 f5 f6 f7 f8 f9 f10 f11 f12 f13 f14 f15 f16 f17 f18) arg1 k s0 (L := []) e21 ?_
    simp only [L3, L4, L5, L7, L8, L9, L10, L11, L12, L13, L14, L15, L16, L17, L18, L22, L23, L24]
    rw [e23, e24]
    rfl
  isplitl [H22]
  · iexists _; isplitl [H22]; · iexact H22
    ipureintro
    rw [scrAt_succ, View.read_writes_full]
    simp only [L3, L4, L5, L7, L8, L9, L10, L11, L12, L13, L14, L15, L16, L17, L18, L22, L23, L24]
    rw [e22]
    rfl
  isplitl [H23]
  · iexists _; isplitl [H23]; · iexact H23
    ipureintro
    rw [scrAt_succ, View.read_writes_full]
    simp only [L3, L4, L5, L7, L8, L9, L10, L11, L12, L13, L14, L15, L16, L17, L18, L22, L23, L24]
    rw [e23, e24]
    rfl
  · iexists _; isplitl [H24]; · iexact H24
    ipureintro
    rw [scrAt_succ, View.read_writes_full]
    simp only [L3, L4, L5, L7, L8, L9, L10, L11, L12, L13, L14, L15, L16, L17, L18, L22, L23, L24]
    rw [e24]
    rfl

end Cert.Proof.KernelIdeal

end
-- ==== Proof.KernelIdealBody.lean ====
/- The kernel's body at one grid point: it leaves the inputs, fills the three output blocks with the point's rows
   and the scratch with the state after the point's five trips. -/
module

public import proofs.«01_k».proof.Proof.KernelIdealLoop

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The number of a grid point along the time axis, as the body computes with it. -/
abbrev pointNo (i : grid0.Coords) : BitVec 32 := BitVec.ofNat 32 (i 1).val

/-- The body's test for the first point. -/
abbrev isFirst (i : grid0.Coords) : Prop :=
  Scalar.cmpi .ne (Scalar.extui (Scalar.cmpi .eq (pointNo i) 0#32) : BitVec 32) 0#32 = 1#1

open Classical in
/-- The scratch a point's trips start from: zero at the first point, what the point before left at the others. -/
def entryScr (i : grid0.Coords) (s : Scr F) : Scr F := if isFirst i then zeroScr else s

set_option maxHeartbeats 4000000 in
/-- The body at a point, of any inputs and any scratch. -/
theorem sound_kernel (c : Dev nD) (i : grid0.Coords) (arg2 : Memref sig .tc .vmem S1024x50 .i32) (harg2 : arg2.IsWhole) (arg3 : Memref sig .tc .vmem S1x1000 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S2x64 .f32) (harg6 : arg6.IsWhole) (arg7 : Memref sig .tc .vmem S192x128 .f32) (harg7 : arg7.IsWhole) (arg8 : Memref sig .tc .vmem S192x64 .f32) (harg8 : arg8.IsWhole) (arg9 : Memref sig .tc .vmem S1x192 .f32) (harg9 : arg9.IsWhole) (arg10 : Memref sig .tc .vmem S1x192 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S8x64 .f32) (harg13 : arg13.IsWhole) (arg14 : Memref sig .tc .vmem S1x1 .f32) (harg14 : arg14.IsWhole) (arg15 : Memref sig .tc .vmem S64x192 .f32) (harg15 : arg15.IsWhole) (arg16 : Memref sig .tc .vmem S1x64 .f32) (harg16 : arg16.IsWhole) (arg17 : Memref sig .tc .vmem S8x64 .f32) (harg17 : arg17.IsWhole) (arg18 : Memref sig .tc .vmem S1x1 .f32) (harg18 : arg18.IsWhole) (arg19 : Memref sig .tc .vmem S1024x5x1x1 .f32) (harg19 : arg19.IsWhole) (arg20 : Memref sig .tc .vmem S1024x5x1x64 .f32) (harg20 : arg20.IsWhole) (arg21 : Memref sig .tc .vmem S1024x5x1x1000 .f32) (harg21 : arg21.IsWhole) (arg22 : Memref sig .tc .vmem S1024x64 .f32) (harg22 : arg22.IsWhole) (arg23 : Memref sig .tc .vmem S1024x1000 .f32) (harg23 : arg23.IsWhole) (arg24 : Memref sig .tc .vmem S1024x50 .f32) (harg24 : arg24.IsWhole) (I : Ins F) (s : Scr F) :
    (iprop(owns (c : Thread nD τ) arg2 fullShare I.packed
    ∗ owns (c : Thread nD τ) arg3 fullShare I.D
    ∗ owns (c : Thread nD τ) arg4 fullShare I.vd
    ∗ owns (c : Thread nD τ) arg5 fullShare I.vc
    ∗ owns (c : Thread nD τ) arg6 fullShare I.R
    ∗ owns (c : Thread nD τ) arg7 fullShare I.Wih
    ∗ owns (c : Thread nD τ) arg8 fullShare I.Whh
    ∗ owns (c : Thread nD τ) arg9 fullShare I.bih
    ∗ owns (c : Thread nD τ) arg10 fullShare I.bhh
    ∗ owns (c : Thread nD τ) arg11 fullShare I.W1a
    ∗ owns (c : Thread nD τ) arg12 fullShare I.b1a
    ∗ owns (c : Thread nD τ) arg13 fullShare I.W1b
    ∗ owns (c : Thread nD τ) arg14 fullShare I.b1b
    ∗ owns (c : Thread nD τ) arg15 fullShare I.W2a
    ∗ owns (c : Thread nD τ) arg16 fullShare I.b2a
    ∗ owns (c : Thread nD τ) arg17 fullShare I.W2b
    ∗ owns (c : Thread nD τ) arg18 fullShare I.b2b
    ∗ (∃ X, owns (c : Thread nD τ) arg19 fullShare X)
    ∗ (∃ X, owns (c : Thread nD τ) arg20 fullShare X)
    ∗ (∃ X, owns (c : Thread nD τ) arg21 fullShare X)
    ∗ owns (c : Thread nD τ) arg22 fullShare s.h
    ∗ owns (c : Thread nD τ) arg23 fullShare s.C
    ∗ owns (c : Thread nD τ) arg24 fullShare s.hist) : sProp 𝕄)
      ⊢ wp frame (wpE (defs₀ (F := F)) Variants.none (c : Thread nD τ) none) Set.univ
        (cc0__um_kernel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24)
        (fun _ => iprop(owns (c : Thread nD τ) arg2 fullShare I.packed
    ∗ owns (c : Thread nD τ) arg3 fullShare I.D
    ∗ owns (c : Thread nD τ) arg4 fullShare I.vd
    ∗ owns (c : Thread nD τ) arg5 fullShare I.vc
    ∗ owns (c : Thread nD τ) arg6 fullShare I.R
    ∗ owns (c : Thread nD τ) arg7 fullShare I.Wih
    ∗ owns (c : Thread nD τ) arg8 fullShare I.Whh
    ∗ owns (c : Thread nD τ) arg9 fullShare I.bih
    ∗ owns (c : Thread nD τ) arg10 fullShare I.bhh
    ∗ owns (c : Thread nD τ) arg11 fullShare I.W1a
    ∗ owns (c : Thread nD τ) arg12 fullShare I.b1a
    ∗ owns (c : Thread nD τ) arg13 fullShare I.W1b
    ∗ owns (c : Thread nD τ) arg14 fullShare I.b1b
    ∗ owns (c : Thread nD τ) arg15 fullShare I.W2a
    ∗ owns (c : Thread nD τ) arg16 fullShare I.b2a
    ∗ owns (c : Thread nD τ) arg17 fullShare I.W2b
    ∗ owns (c : Thread nD τ) arg18 fullShare I.b2b
    ∗ owns (c : Thread nD τ) arg19 fullShare (blockA I (pointNo i) (entryScr i s))
    ∗ owns (c : Thread nD τ) arg20 fullShare (blockH I (pointNo i) (entryScr i s))
    ∗ owns (c : Thread nD τ) arg21 fullShare (blockC I (pointNo i) (entryScr i s))
    ∗ owns (c : Thread nD τ) arg22 fullShare (scrAt I (pointNo i) (entryScr i s) 5).h
    ∗ owns (c : Thread nD τ) arg23 fullShare (scrAt I (pointNo i) (entryScr i s) 5).C
    ∗ owns (c : Thread nD τ) arg24 fullShare (scrAt I (pointNo i) (entryScr i s) 5).hist)) := by
  simp only [cc0__um_kernel_eq_skeleton]
  unfold cc0__um_kernel_skel owns
  simp only [harg2.set_eq_univ, harg3.set_eq_univ, harg4.set_eq_univ, harg5.set_eq_univ, harg6.set_eq_univ, harg7.set_eq_univ, harg8.set_eq_univ, harg9.set_eq_univ, harg10.set_eq_univ, harg11.set_eq_univ, harg12.set_eq_univ, harg13.set_eq_univ, harg14.set_eq_univ, harg15.set_eq_univ, harg16.set_eq_univ, harg17.set_eq_univ, harg18.set_eq_univ, harg19.set_eq_univ, harg20.set_eq_univ, harg21.set_eq_univ, harg22.set_eq_univ, harg23.set_eq_univ, harg24.set_eq_univ]
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%X19, %f19, %e19, H19⟩, ⟨%X20, %f20, %e20, H20⟩, ⟨%X21, %f21, %e21, H21⟩, ⟨%f22, %e22, H22⟩, ⟨%f23, %e23, H23⟩, ⟨%f24, %e24, H24⟩⟩
  have hI : insOf arg3 arg4 arg5 arg6 arg7 arg8 arg9 arg10 arg11 arg12 arg13 arg14 arg15 arg16 arg17 arg18 (arg2.view.readAt (Elt F) (Rect.unit (s := S1024x50) ![0, 0] S1024x50.size inb_S1024x50_S1024x50_0_0).toLoadRect f2) f3 f4 f5 f6 f7 f8 f9 f10 f11 f12 f13 f14 f15 f16 f17 f18 = I := by
    unfold insOf
    rw [View.readAt_full, e2, e3, e4, e5, e6, e7, e8, e9, e10, e11, e12, e13, e14, e15, e16, e17, e18]
  by_cases hC : isFirst i
  · have hs : entryScr i s = zeroScr := if_pos hC
    sl_exec
    sl_for (inv (F := F) c arg2 arg3 arg4 arg5 arg6 arg7 arg8 arg9 arg10 arg11 arg12 arg13 arg14 arg15 arg16 arg17 arg18 arg19 arg20 arg21 arg22 arg23 arg24 (pointNo i) (arg2.view.readAt (Elt F) (Rect.unit (s := S1024x50) ![0, 0] S1024x50.size inb_S1024x50_S1024x50_0_0).toLoadRect f2) f2 f3 f4 f5 f6 f7 f8 f9 f10 f11 f12 f13 f14 f15 f16 f17 f18 (entryScr i s)) $$ [H2 H3 H4 H5 H6 H7 H8 H9 H10 H11 H12 H13 H14 H15 H16 H17 H18 H19 H20 H21 H22 H23 H24]
    case region => exact fun k acc => inv_step (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (pointNo i) (arg2.view.readAt (Elt F) (Rect.unit (s := S1024x50) ![0, 0] S1024x50.size inb_S1024x50_S1024x50_0_0).toLoadRect f2) f2 f3 f4 f5 f6 f7 f8 f9 f10 f11 f12 f13 f14 f15 f16 f17 f18 (entryScr i s) k acc
    · unfold inv
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun y hy => absurd hy (Nat.not_lt_zero _)
      isplitl [H20]
      · iexists _; isplitl [H20]; · iexact H20
        ipureintro; exact fun y hy => absurd hy (Nat.not_lt_zero _)
      isplitl [H21]
      · iexists _; isplitl [H21]; · iexact H21
        ipureintro; exact fun y hy => absurd hy (Nat.not_lt_zero _)
      isplitl [H22]
      · iexists _; isplitl [H22]; · iexact H22
        ipureintro; show _ = (entryScr i s).h; rw [hs]; exact View.read_writes_full _ _ _ _ _
      isplitl [H23]
      · iexists _; isplitl [H23]; · iexact H23
        ipureintro; show _ = (entryScr i s).C; rw [hs]; exact View.read_writes_full _ _ _ _ _
      · iexists _; isplitl [H24]; · iexact H24
        ipureintro; show _ = (entryScr i s).hist; rw [hs]; exact View.read_writes_full _ _ _ _ _
    unfold inv
    rw [show Scf.trips k0_t1_loop.lb k0_t1_loop.ub k0_t1_loop.st = 5 from trips_eq]
    iintro %_ ⟨H2, H3, H4, H5, H6, H7, H8, H9, H10, H11, H12, H13, H14, H15, H16, H17, H18, ⟨%g19, H19, %d19⟩, ⟨%g20, H20, %d20⟩, ⟨%g21, H21, %d21⟩, ⟨%g22, H22, %d22⟩, ⟨%g23, H23, %d23⟩, ⟨%g24, H24, %d24⟩⟩
    sl_exec
    sl_step
    isplitl [H2]
    · iexists f2; isplitr
      · ipureintro; exact e2
      iexact H2
    isplitl [H3]
    · iexists f3; isplitr
      · ipureintro; exact e3
      iexact H3
    isplitl [H4]
    · iexists f4; isplitr
      · ipureintro; exact e4
      iexact H4
    isplitl [H5]
    · iexists f5; isplitr
      · ipureintro; exact e5
      iexact H5
    isplitl [H6]
    · iexists f6; isplitr
      · ipureintro; exact e6
      iexact H6
    isplitl [H7]
    · iexists f7; isplitr
      · ipureintro; exact e7
      iexact H7
    isplitl [H8]
    · iexists f8; isplitr
      · ipureintro; exact e8
      iexact H8
    isplitl [H9]
    · iexists f9; isplitr
      · ipureintro; exact e9
      iexact H9
    isplitl [H10]
    · iexists f10; isplitr
      · ipureintro; exact e10
      iexact H10
    isplitl [H11]
    · iexists f11; isplitr
      · ipureintro; exact e11
      iexact H11
    isplitl [H12]
    · iexists f12; isplitr
      · ipureintro; exact e12
      iexact H12
    isplitl [H13]
    · iexists f13; isplitr
      · ipureintro; exact e13
      iexact H13
    isplitl [H14]
    · iexists f14; isplitr
      · ipureintro; exact e14
      iexact H14
    isplitl [H15]
    · iexists f15; isplitr
      · ipureintro; exact e15
      iexact H15
    isplitl [H16]
    · iexists f16; isplitr
      · ipureintro; exact e16
      iexact H16
    isplitl [H17]
    · iexists f17; isplitr
      · ipureintro; exact e17
      iexact H17
    isplitl [H18]
    · iexists f18; isplitr
      · ipureintro; exact e18
      iexact H18
    isplitl [H19]
    · iexists g19; isplitr
      · ipureintro; funext y; rw [d19 y (y 1).isLt, hI]
      iexact H19
    isplitl [H20]
    · iexists g20; isplitr
      · ipureintro; funext y; rw [d20 y (y 1).isLt, hI]
      iexact H20
    isplitl [H21]
    · iexists g21; isplitr
      · ipureintro; funext y; rw [d21 y (y 1).isLt, hI]
      iexact H21
    isplitl [H22]
    · iexists g22; isplitr
      · ipureintro; rw [d22, hI]
      iexact H22
    isplitl [H23]
    · iexists g23; isplitr
      · ipureintro; rw [d23, hI]
      iexact H23
    · iexists g24; isplitr
      · ipureintro; rw [d24, hI]
      iexact H24

  · have hs : entryScr i s = s := if_neg hC
    sl_exec
    sl_for (inv (F := F) c arg2 arg3 arg4 arg5 arg6 arg7 arg8 arg9 arg10 arg11 arg12 arg13 arg14 arg15 arg16 arg17 arg18 arg19 arg20 arg21 arg22 arg23 arg24 (pointNo i) (arg2.view.readAt (Elt F) (Rect.unit (s := S1024x50) ![0, 0] S1024x50.size inb_S1024x50_S1024x50_0_0).toLoadRect f2) f2 f3 f4 f5 f6 f7 f8 f9 f10 f11 f12 f13 f14 f15 f16 f17 f18 (entryScr i s)) $$ [H2 H3 H4 H5 H6 H7 H8 H9 H10 H11 H12 H13 H14 H15 H16 H17 H18 H19 H20 H21 H22 H23 H24]
    case region => exact fun k acc => inv_step (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (pointNo i) (arg2.view.readAt (Elt F) (Rect.unit (s := S1024x50) ![0, 0] S1024x50.size inb_S1024x50_S1024x50_0_0).toLoadRect f2) f2 f3 f4 f5 f6 f7 f8 f9 f10 f11 f12 f13 f14 f15 f16 f17 f18 (entryScr i s) k acc
    · unfold inv
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]
      · iexists _; isplitl [H19]; · iexact H19
        ipureintro; exact fun y hy => absurd hy (Nat.not_lt_zero _)
      isplitl [H20]
      · iexists _; isplitl [H20]; · iexact H20
        ipureintro; exact fun y hy => absurd hy (Nat.not_lt_zero _)
      isplitl [H21]
      · iexists _; isplitl [H21]; · iexact H21
        ipureintro; exact fun y hy => absurd hy (Nat.not_lt_zero _)
      isplitl [H22]
      · iexists _; isplitl [H22]; · iexact H22
        ipureintro; show _ = (entryScr i s).h; rw [hs]; exact e22
      isplitl [H23]
      · iexists _; isplitl [H23]; · iexact H23
        ipureintro; show _ = (entryScr i s).C; rw [hs]; exact e23
      · iexists _; isplitl [H24]; · iexact H24
        ipureintro; show _ = (entryScr i s).hist; rw [hs]; exact e24
    unfold inv
    rw [show Scf.trips k0_t1_loop.lb k0_t1_loop.ub k0_t1_loop.st = 5 from trips_eq]
    iintro %_ ⟨H2, H3, H4, H5, H6, H7, H8, H9, H10, H11, H12, H13, H14, H15, H16, H17, H18, ⟨%g19, H19, %d19⟩, ⟨%g20, H20, %d20⟩, ⟨%g21, H21, %d21⟩, ⟨%g22, H22, %d22⟩, ⟨%g23, H23, %d23⟩, ⟨%g24, H24, %d24⟩⟩
    sl_exec
    sl_step
    isplitl [H2]
    · iexists f2; isplitr
      · ipureintro; exact e2
      iexact H2
    isplitl [H3]
    · iexists f3; isplitr
      · ipureintro; exact e3
      iexact H3
    isplitl [H4]
    · iexists f4; isplitr
      · ipureintro; exact e4
      iexact H4
    isplitl [H5]
    · iexists f5; isplitr
      · ipureintro; exact e5
      iexact H5
    isplitl [H6]
    · iexists f6; isplitr
      · ipureintro; exact e6
      iexact H6
    isplitl [H7]
    · iexists f7; isplitr
      · ipureintro; exact e7
      iexact H7
    isplitl [H8]
    · iexists f8; isplitr
      · ipureintro; exact e8
      iexact H8
    isplitl [H9]
    · iexists f9; isplitr
      · ipureintro; exact e9
      iexact H9
    isplitl [H10]
    · iexists f10; isplitr
      · ipureintro; exact e10
      iexact H10
    isplitl [H11]
    · iexists f11; isplitr
      · ipureintro; exact e11
      iexact H11
    isplitl [H12]
    · iexists f12; isplitr
      · ipureintro; exact e12
      iexact H12
    isplitl [H13]
    · iexists f13; isplitr
      · ipureintro; exact e13
      iexact H13
    isplitl [H14]
    · iexists f14; isplitr
      · ipureintro; exact e14
      iexact H14
    isplitl [H15]
    · iexists f15; isplitr
      · ipureintro; exact e15
      iexact H15
    isplitl [H16]
    · iexists f16; isplitr
      · ipureintro; exact e16
      iexact H16
    isplitl [H17]
    · iexists f17; isplitr
      · ipureintro; exact e17
      iexact H17
    isplitl [H18]
    · iexists f18; isplitr
      · ipureintro; exact e18
      iexact H18
    isplitl [H19]
    · iexists g19; isplitr
      · ipureintro; funext y; rw [d19 y (y 1).isLt, hI]
      iexact H19
    isplitl [H20]
    · iexists g20; isplitr
      · ipureintro; funext y; rw [d20 y (y 1).isLt, hI]
      iexact H20
    isplitl [H21]
    · iexists g21; isplitr
      · ipureintro; funext y; rw [d21 y (y 1).isLt, hI]
      iexact H21
    isplitl [H22]
    · iexists g22; isplitr
      · ipureintro; rw [d22, hI]
      iexact H22
    isplitl [H23]
    · iexists g23; isplitr
      · ipureintro; rw [d23, hI]
      iexact H23
    · iexists g24; isplitr
      · ipureintro; rw [d24, hI]
      iexact H24

end Cert.Proof.KernelIdeal

end
-- ==== Proof.KernelIdealRun.lean ====
/- The kernel's launch: the body's triple at every grid point, the scratch tracked from point to point, and the run
   of the whole program. -/
module

public import proofs.«01_k».proof.Proof.KernelIdealBody
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's inputs: the arrays as the region finds them, after the host's packing, reshapes and padding. -/
def insAt (c : Dev nD) : Ins F where
  packed := V m c main_v6
  D := V m c main_v7
  vd := V m c main_v8
  vc := V m c main_v9
  R := V m c main_arg8
  Wih := V m c main_arg9
  Whh := V m c main_arg10
  bih := V m c main_v10
  bhh := V m c main_v11
  W1a := V m c main_arg13
  b1a := V m c main_v12
  W1b := V m c main_v13
  b1b := V m c main_v14
  W2a := V m c main_arg17
  b2a := V m c main_v15
  W2b := V m c main_v16
  b2b := V m c main_v17

/-- Every input window stays at block zero. -/
theorem index_zero : ∀ w : Fin cfg0.W, w.val < 17 → ∀ (t : Fin cfg0.N) (a : Fin (cfg0.win w).shape.rank),
    (cfg0.win w).index t a = 0 := by decide +kernel

set_option maxHeartbeats 2000000 in
/-- Every input window has one block, the whole array, whatever the point. -/
theorem iblk_whole (c : Dev nD) (t : Fin cfg0.N) :
    iblk m c 0 t = (insAt m c).packed
    ∧ iblk m c 1 t = (insAt m c).D
    ∧ iblk m c 2 t = (insAt m c).vd
    ∧ iblk m c 3 t = (insAt m c).vc
    ∧ iblk m c 4 t = (insAt m c).R
    ∧ iblk m c 5 t = (insAt m c).Wih
    ∧ iblk m c 6 t = (insAt m c).Whh
    ∧ iblk m c 7 t = (insAt m c).bih
    ∧ iblk m c 8 t = (insAt m c).bhh
    ∧ iblk m c 9 t = (insAt m c).W1a
    ∧ iblk m c 10 t = (insAt m c).b1a
    ∧ iblk m c 11 t = (insAt m c).W1b
    ∧ iblk m c 12 t = (insAt m c).b1b
    ∧ iblk m c 13 t = (insAt m c).W2a
    ∧ iblk m c 14 t = (insAt m c).b2a
    ∧ iblk m c 15 t = (insAt m c).W2b
    ∧ iblk m c 16 t = (insAt m c).b2b := by
  have e := fun (w : Fin cfg0.W) (h : w.val < 17) (y : ((cfg0.win w).xblock (grid0.coords t)).Idx)
      (a : Fin (cfg0.win w).shape.rank) =>
    Pipeline.Window.rect_emb_val_of_index_zero (cfg0.win w) t a (index_zero w h t a) y
  refine ⟨funext fun y => congrArg (a₂ := y) (V m c main_v6) (funext fun a => Fin.ext (e 0 (by decide) y a)),
    funext fun y => congrArg (a₂ := y) (V m c main_v7) (funext fun a => Fin.ext (e 1 (by decide) y a)),
    funext fun y => congrArg (a₂ := y) (V m c main_v8) (funext fun a => Fin.ext (e 2 (by decide) y a)),
    funext fun y => congrArg (a₂ := y) (V m c main_v9) (funext fun a => Fin.ext (e 3 (by decide) y a)),
    funext fun y => congrArg (a₂ := y) (V m c main_arg8) (funext fun a => Fin.ext (e 4 (by decide) y a)),
    funext fun y => congrArg (a₂ := y) (V m c main_arg9) (funext fun a => Fin.ext (e 5 (by decide) y a)),
    funext fun y => congrArg (a₂ := y) (V m c main_arg10) (funext fun a => Fin.ext (e 6 (by decide) y a)),
    funext fun y => congrArg (a₂ := y) (V m c main_v10) (funext fun a => Fin.ext (e 7 (by decide) y a)),
    funext fun y => congrArg (a₂ := y) (V m c main_v11) (funext fun a => Fin.ext (e 8 (by decide) y a)),
    funext fun y => congrArg (a₂ := y) (V m c main_arg13) (funext fun a => Fin.ext (e 9 (by decide) y a)),
    funext fun y => congrArg (a₂ := y) (V m c main_v12) (funext fun a => Fin.ext (e 10 (by decide) y a)),
    funext fun y => congrArg (a₂ := y) (V m c main_v13) (funext fun a => Fin.ext (e 11 (by decide) y a)),
    funext fun y => congrArg (a₂ := y) (V m c main_v14) (funext fun a => Fin.ext (e 12 (by decide) y a)),
    funext fun y => congrArg (a₂ := y) (V m c main_arg17) (funext fun a => Fin.ext (e 13 (by decide) y a)),
    funext fun y => congrArg (a₂ := y) (V m c main_v15) (funext fun a => Fin.ext (e 14 (by decide) y a)),
    funext fun y => congrArg (a₂ := y) (V m c main_v16) (funext fun a => Fin.ext (e 15 (by decide) y a)),
    funext fun y => congrArg (a₂ := y) (V m c main_v17) (funext fun a => Fin.ext (e 16 (by decide) y a))⟩

/-- The scratch buffers hold `s`. -/
def held (c : Dev nD) (s : Scr F) : sProp 𝕄 :=
  iprop(owns (c : Thread nD τ) (Memref.whole cc0_scratch0) fullShare s.h
    ∗ owns (c : Thread nD τ) (Memref.whole cc0_scratch1) fullShare s.C
    ∗ owns (c : Thread nD τ) (Memref.whole cc0_scratch2) fullShare s.hist)

/-- Between points the scratch holds the state of the points so far (before the first point, anything). -/
def between (c : Dev nD) (n : ℕ) : sProp 𝕄 :=
  iprop((∃ s : Scr F, ⌜n ≠ 0 → s = pointScr (insAt m c) n⌝ ∗ held c s) ∗ ∃ r, prngReg c r)

/-- The pipeline's proof data: the inputs' blocks stay, the outputs' blocks are the point's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => blockA (insAt m c) (BitVec.ofNat 32 t.val) (pointScr (insAt m c) t.val)
    | ⟨18, _⟩ => blockH (insAt m c) (BitVec.ofNat 32 t.val) (pointScr (insAt m c) t.val)
    | ⟨19, _⟩ => blockC (insAt m c) (BitVec.ofNat 32 t.val) (pointScr (insAt m c) t.val)
    | ⟨n + 20, h⟩ => absurd h (Nat.not_lt.2 (Nat.le_add_left _ _))
  Φ t := between m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = blockA (insAt m c) (BitVec.ofNat 32 t.val) (pointScr (insAt m c) t.val) := by dsimp only [dats]
theorem after0_18 (c : Dev nD) (t : Fin cfg0.N) : (dats m 0 c).after 18 t = blockH (insAt m c) (BitVec.ofNat 32 t.val) (pointScr (insAt m c) t.val) := by dsimp only [dats]
theorem after0_19 (c : Dev nD) (t : Fin cfg0.N) : (dats m 0 c).after 19 t = blockC (insAt m c) (BitVec.ofNat 32 t.val) (pointScr (insAt m c) t.val) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- The scratch as the launch finds it, -/
theorem between_in (c : Dev nD) : Pipeline.ΦA spec0 c ⊢ (between m c 0 : sProp 𝕄) := by
  unfold Pipeline.ΦA between held
  rw [scopedRest0_eq]
  simp only [owns_whole]
  iintro ⟨⟨⟨%f0, H0⟩, ⟨%f1, H1⟩, ⟨%f2, H2⟩⟩, Hr⟩
  isplitr [Hr]
  · iexists (⟨f0, f1, f2⟩ : Scr F)
    isplitr; · ipureintro; exact fun h => absurd rfl h
    isplitl [H0]; · iexact H0
    isplitl [H1]; · iexact H1
    iexact H2
  · iexact Hr

/-- and as it hands it back. -/
theorem between_out (c : Dev nD) (n : ℕ) : (between m c n : sProp 𝕄) ⊢ Pipeline.ΦA spec0 c := by
  unfold Pipeline.ΦA between held
  rw [scopedRest0_eq]
  simp only [owns_whole]
  iintro ⟨⟨%s, -, H0, H1, H2⟩, Hr⟩
  isplitr [Hr]
  · isplitl [H0]; · iexists _; iexact H0
    isplitl [H1]; · iexists _; iexact H1
    iexists _; iexact H2
  · iexact Hr

/-- A point's coordinate on the time axis is its number. -/
theorem coord_eq : ∀ t : Fin cfg0.N, (grid0.coords t 1).val = t.val := by decide +kernel
/-- The body's test holds at the first point only. -/
theorem isFirst_iff : ∀ t : Fin cfg0.N, isFirst (grid0.coords t) ↔ t.val = 0 := by decide +kernel

/-- The scratch a point's trips start from, from what the point before left. -/
theorem entry_eq (c : Dev nD) (t : Fin cfg0.N) (s : Scr F) (hs : t.val ≠ 0 → s = pointScr (insAt m c) t.val) :
    entryScr (grid0.coords t) s = pointScr (insAt m c) t.val := by
  unfold entryScr
  by_cases h : t.val = 0
  · rw [if_pos ((isFirst_iff t).2 h), h]; rfl
  · rw [if_neg (fun h' => h ((isFirst_iff t).1 h')), hs h]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, after0_0, after0_1, after0_2, after0_3, after0_4, after0_5, after0_6, after0_7, after0_8, after0_9, after0_10, after0_11, after0_12, after0_13, after0_14, after0_15, after0_16, after0_17, after0_18, after0_19]
  obtain ⟨b0, b1, b2, b3, b4, b5, b6, b7, b8, b9, b10, b11, b12, b13, b14, b15, b16⟩ := iblk_whole m c t
  rw [b0, b1, b2, b3, b4, b5, b6, b7, b8, b9, b10, b11, b12, b13, b14, b15, b16]
  rw [show (dats m 0 c).Φ t.castSucc = between m c t.val from rfl, show (dats m 0 c).Φ t.succ = between m c (t.val + 1) from rfl,
    show (dats m 0 c).owesAt () t.succ = (dats m 0 c).owesAt () t.castSucc from rfl]
  unfold between held
  iintro ⟨⟨⟨%s, %hs, S0, S1, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  have hE := entry_eq m c t s hs
  iapply (wp_wand_r frame _ Set.univ (Q := fun _ => _))
  isplitl [S0 S1 S2 H0 H1 H2 H3 H4 H5 H6 H7 H8 H9 H10 H11 H12 H13 H14 H15 H16 H17 H18 H19]
  · iapply (sound_kernel (F := F) c (grid0.coords t) _ _ _ _ _ _ _ _ _ _ _ _ _ _ _ _ _ _ _ _ _ _ _ _ _ _ _ _ _ _ _ _ _ _ _ _ _ _ _ _ _ _ _ _ _ _ (insAt m c) s)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [S0]; · iexact S0
    isplitl [S1]; · iexact S1
    iexact S2
  rw [hE, show pointNo (grid0.coords t) = BitVec.ofNat 32 t.val from congrArg (BitVec.ofNat 32) (coord_eq t)]
  iintro %_ ⟨H0, H1, H2, H3, H4, H5, H6, H7, H8, H9, H10, H11, H12, H13, H14, H15, H16, H17, H18, H19, S0, S1, S2⟩
  isplitl [S0 S1 S2 Hr]
  · isplitr [Hr]
    · iexists (pointScr (insAt m c) (t.val + 1))
      isplitr; · ipureintro; exact fun _ => rfl
      isplitl [S0]; · iexact S0
      isplitl [S1]; · iexact S1
      iexact S2
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every weakly fair execution ends, the arrays as the proof data computes them and the host lines after the
    region leave them, and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := between_in m) (hout := fun c => between_out m c _)

/-- The run without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

end Cert.Proof.KernelIdeal

end
-- ==== Proof.RefIter.lean ====
/- The reference's run over the one-step functions of `Gen/ReferenceIdeal/Step.lean`: what the loop's buffers hold before
   each trip is one state, a trip applies `step` to it, and the results are read off the state after 50 trips. -/
module

public import proofs.«01_k».proof.Proof.Gen.ReferenceIdeal.Run
public import proofs.«01_k».proof.Proof.Gen.ReferenceIdeal.Step

@[expose] public section

noncomputable section

namespace Cert.Proof.RefIter

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state a trip finds in the loop's buffers. -/
def stateOf (V : Valuation τ sig (Elt F)) : State F where
  main_v27_14 := V (Proc.devRef .tc main_v27_14)
  main_v27_15 := V (Proc.devRef .tc main_v27_15)
  main_v27_16 := V (Proc.devRef .tc main_v27_16)
  main_v27_17 := V (Proc.devRef .tc main_v27_17)
  main_v27_0 := V (Proc.devRef .tc main_v27_0)
  main_v27_1 := V (Proc.devRef .tc main_v27_1)
  main_v27_2 := V (Proc.devRef .tc main_v27_2)
  main_v27_3 := V (Proc.devRef .tc main_v27_3)
  main_v27_4 := V (Proc.devRef .tc main_v27_4)
  main_v27_5 := V (Proc.devRef .tc main_v27_5)
  main_v27_6 := V (Proc.devRef .tc main_v27_6)
  main_v27_7 := V (Proc.devRef .tc main_v27_7)
  main_v27_8 := V (Proc.devRef .tc main_v27_8)
  main_v27_9 := V (Proc.devRef .tc main_v27_9)
  main_v27_10 := V (Proc.devRef .tc main_v27_10)
  main_v27_11 := V (Proc.devRef .tc main_v27_11)
  main_v27_12 := V (Proc.devRef .tc main_v27_12)

/-- The loop's counter holds the number of the trip. -/
def AtTrip (V : Valuation τ sig (Elt F)) (j : ℕ) : Prop :=
  V (Proc.devRef .tc main_v27_13) = constantI S_ 32 (BitVec.ofNat 32 j)

variable {V : Valuation τ sig (Elt F)} {j : ℕ}

set_option maxRecDepth 16384 in
/-- A trip's input product and bias. -/
theorem gi_eq (h : AtTrip V j) : res_main_while0b_v50 V = Step.b19 j (stateOf V) := by
  unfold res_main_while0b_v50
  rw [show V (Proc.devRef .tc main_v27_13) = _ from h]
  rfl

set_option maxRecDepth 16384 in
/-- A trip's concept ids. -/
theorem ids_eq (h : AtTrip V j) : res_main_while0b_v43 V = Step.b6 j (stateOf V) := by
  unfold res_main_while0b_v43
  rw [show V (Proc.devRef .tc main_v27_13) = _ from h]
  rfl

set_option maxRecDepth 16384 in
/-- A trip's recurrent product and bias. -/
theorem gh_eq : res_main_while0b_v55 V = Step.b24 j (stateOf V) := by
  unfold res_main_while0b_v55
  rfl

set_option maxRecDepth 16384 in
/-- A trip's update gate. -/
theorem z_eq (h : AtTrip V j) : res_main_while0b_v75 V = Step.b48 j (stateOf V) := by
  unfold res_main_while0b_v75
  rw [gi_eq h, gh_eq (j := j)]
  rfl

set_option maxRecDepth 16384 in
/-- A trip's new hidden state. -/
theorem h_eq (h : AtTrip V j) : res_main_while0b_v83 V = Step.b57 j (stateOf V) := by
  unfold res_main_while0b_v83
  rw [gi_eq h, gh_eq (j := j), z_eq h]
  rfl

set_option maxRecDepth 16384 in
/-- A trip's concept ids as a column. -/
theorem idsCol_eq (h : AtTrip V j) : res_main_while0b_v84 V = Step.b58 j (stateOf V) := by
  unfold res_main_while0b_v84
  rw [ids_eq h]
  rfl

set_option maxRecDepth 16384 in
/-- A trip's concept ids as the gather takes them. -/
theorem idsAt_eq (h : AtTrip V j) : res_main_while0b_call4_v5 V = Step.b66 j (stateOf V) := by
  unfold res_main_while0b_call4_v5
  rw [idsCol_eq h]
  rfl

set_option maxRecDepth 16384 in
/-- A trip's one-hot rows. -/
theorem oneHot_eq (h : AtTrip V j) : res_main_while0b_v103 V = Step.b105 j (stateOf V) := by
  unfold res_main_while0b_v103
  rw [ids_eq h]
  rfl

set_option maxRecDepth 16384 in
/-- A trip's new concept table. -/
theorem C2_eq (h : AtTrip V j) : res_main_while0b_v110 V = Step.b113 j (stateOf V) := by
  unfold res_main_while0b_v110
  rw [idsAt_eq h, oneHot_eq h, show V (Proc.devRef .tc main_v27_13) = _ from h]
  rfl

set_option maxRecDepth 16384 in
/-- A trip's stack of hidden states. -/
theorem hStack_eq (h : AtTrip V j) : step_main_v27_16 V = Step.b117 j (stateOf V) := by
  unfold step_main_v27_16
  rw [h_eq h, show V (Proc.devRef .tc main_v27_13) = _ from h]
  rfl

set_option maxRecDepth 16384 in
/-- A trip's stack of concept tables. -/
theorem CStack_eq (h : AtTrip V j) : step_main_v27_17 V = Step.b121 j (stateOf V) := by
  unfold step_main_v27_17
  rw [C2_eq h, show V (Proc.devRef .tc main_v27_13) = _ from h]
  rfl

/-- A trip advances the counter. -/
theorem atTrip_succ (h : AtTrip V j) : AtTrip (STEP V) (j + 1) := by
  refine (STEP_main_v27_13 V).trans ?_
  unfold step_main_v27_13
  rw [show V (Proc.devRef .tc main_v27_13) = _ from h]
  funext i
  show BitVec.ofNat 32 j + 1#32 = BitVec.ofNat 32 (j + 1)
  simp only [BitVec.ofNat_add]

/-- A trip applies `step` to the state. -/
theorem stateOf_STEP (h : AtTrip V j) : stateOf (STEP V) = step j (stateOf V) := by
  unfold stateOf step
  rw [STEP_main_v27_14, STEP_main_v27_15, STEP_main_v27_16, STEP_main_v27_17,
    STEP_main_v27_0, STEP_main_v27_1, STEP_main_v27_2, STEP_main_v27_3, STEP_main_v27_4, STEP_main_v27_5,
    STEP_main_v27_6, STEP_main_v27_7, STEP_main_v27_8, STEP_main_v27_9, STEP_main_v27_10, STEP_main_v27_11,
    STEP_main_v27_12, hStack_eq h, CStack_eq h, show step_main_v27_14 V = _ from h_eq h,
    show step_main_v27_15 V = _ from C2_eq h]
  rfl

variable (m : (ℓ : Loc nD τ sig) → Buf (Elt F) ℓ) (ρ : Dev nD → PrngReg) (c : Dev nD)

/-- The array of argument `b` on core `c`. -/
abbrev arg (b : Ref sig .tc) : (Proc.devRef .tc b : DevRef τ sig).ty.Contents (Elt F) := m ((c.tc : Thread nD τ).loc b)

/-- The state the loop starts from, of the memory the run starts from. -/
abbrev start : State F :=
  init (arg m c main_arg9) (arg m c main_arg11) (arg m c main_arg10) (arg m c main_arg12) (arg m c main_arg7)
    (arg m c main_arg17) (arg m c main_arg18) (arg m c main_arg19) (arg m c main_arg20) (arg m c main_arg1)
    (arg m c main_arg3) (arg m c main_arg4) (arg m c main_arg5) (arg m c main_arg6) (arg m c main_arg8)

set_option maxRecDepth 65536 in
set_option maxHeartbeats 1600000 in
/-- The operations before the loop leave the counter at 0. -/
theorem entry_atTrip : AtTrip (entryContents preI m c) 0 := by
  unfold AtTrip
  simp only [entryContents, afterL_cons, afterL_nil]
  after_reads_simp
  rfl

set_option maxRecDepth 65536 in
set_option maxHeartbeats 1600000 in
/-- The operations before the loop leave the state `start`. -/
theorem entry_state : stateOf (entryContents preI m c) = start m c := by
  unfold stateOf
  simp only [entryContents, afterL_cons, afterL_nil]
  after_reads_simp
  rfl

/-- The reference's state before trip `k`. -/
def refState : ℕ → State F
  | 0 => start m c
  | k + 1 => step k (refState k)

/-- Before trip `k` the loop's buffers hold `refState k`. -/
theorem iter_state (k : ℕ) : AtTrip (STEP^[k] (entryContents preI m c)) k
    ∧ stateOf (STEP^[k] (entryContents preI m c)) = refState m c k := by
  induction k with
  | zero => exact ⟨entry_atTrip m c, entry_state m c⟩
  | succ k ih =>
    rw [Function.iterate_succ_apply']
    refine ⟨atTrip_succ ih.1, ?_⟩
    rw [stateOf_STEP ih.1, ih.2]
    rfl

set_option maxRecDepth 16384 in
/-- The first result, of the final state and the readout's weights. -/
theorem out_alpha (k : ℕ) : out_main_v41 (STEP^[k] (entryContents preI m c))
    = Step.R_main_v41 (refState m c k) (arg m c main_arg13) (arg m c main_arg14) (arg m c main_arg15) (arg m c main_arg16) := by
  rw [← (iter_state m c k).2]
  unfold out_main_v41
  rw [iter_main_arg13 m c k, iter_main_arg14 m c k, iter_main_arg15 m c k, iter_main_arg16 m c k]
  rfl

/-- The second result, of the final state. -/
theorem out_h (k : ℕ) : out_main_v28 (STEP^[k] (entryContents preI m c)) = Step.R_main_v28 (refState m c k) := by
  rw [← (iter_state m c k).2]
  rfl

/-- The third result, of the final state. -/
theorem out_C2 (k : ℕ) : out_main_v29 (STEP^[k] (entryContents preI m c)) = Step.R_main_v29 (refState m c k) := by
  rw [← (iter_state m c k).2]
  rfl

end Cert.Proof.RefIter

end
-- ==== Proof.Frames.lean ====
/- The frames: each program runs, leaves its arguments as they were and every semaphore counter at zero. -/
module

public import proofs.«01_k».proof.Defs
public import proofs.«01_k».proof.Proof.KernelRun
public import proofs.«01_k».proof.Proof.KernelIdealRun
public import proofs.«01_k».proof.Proof.RefIter

@[expose] public section

noncomputable section

namespace Cert.Proof.Frames

open Idealize.ShloMosaic Idealize.SL.Sem

/-- The kernel's frame. -/
theorem kernel : Cert.quiescent_Kernel (hKernel := Cert.Kernel.Gen.facts) := fun m ρ _ =>
  θ_run_and (Cert.Kernel.Gen.frame_of m ρ (Cert.Proof.Kernel.dats m) (Cert.Proof.Kernel.A_eq m) (Cert.Proof.Kernel.run m ρ))
    ((θ_run _ _ _).mono (fun _ h => h.2) (Cert.Proof.Kernel.run_quiescent m ρ))

/-- The frame of the kernel at exact arithmetic. -/
theorem kernelIdeal : Cert.quiescent_KernelIdeal (hKernelIdeal := Cert.KernelIdeal.Gen.facts) := fun m ρ _ =>
  θ_run_and (Cert.KernelIdeal.Gen.frame_of m ρ (Cert.Proof.KernelIdeal.dats m) (Cert.Proof.KernelIdeal.A_eq m)
      (Cert.Proof.KernelIdeal.run m ρ))
    ((θ_run _ _ _).mono (fun _ h => h.2) (Cert.Proof.KernelIdeal.run_quiescent m ρ))

/-- The frame of the reference: its run, read at the arguments; the program declares no semaphore. -/
theorem referenceIdeal : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

end Cert.Proof.Frames

end
-- ==== Proof.Model.lean ====
/- The mathematics, one batch row at a time: the weights, the ids, and what one time step makes of the hidden state and of
   the concept table. No array, no program. -/
module

public import Idealize.ShloMosaic.PureOps.Ideal
public import Idealize.ShloMosaic.Lib.Pointwise

@[expose] public section

noncomputable section

namespace Cert.Proof.Model

open Idealize.ShloMosaic

/-- The weights. -/
@[ext] structure Weights where
  D : Fin 1000 → EReal
  vd : Fin 64 → EReal
  vc : Fin 64 → EReal
  R : Fin 2 → Fin 64 → EReal
  Wih : Fin 192 → Fin 128 → EReal
  Whh : Fin 192 → Fin 64 → EReal
  bih : Fin 192 → EReal
  bhh : Fin 192 → EReal
  W1a : Fin 64 → Fin 64 → EReal
  b1a : Fin 64 → EReal
  W1b : Fin 64 → EReal
  b1b : EReal
  W2a : Fin 64 → Fin 192 → EReal
  b2a : Fin 64 → EReal
  W2b : Fin 64 → EReal
  b2b : EReal

/-- One batch row's ids, by time step: concepts, difficulties, responses. -/
structure Ids where
  c : Fin 50 → Fin 1000
  d : Fin 50 → Fin 1000
  r : Fin 50 → Fin 2

/-- One batch row's state: the hidden state and the concept table. -/
structure Row where
  h : Fin 64 → EReal
  C : Fin 1000 → EReal

variable (w : Weights) (ids : Ids)

/-- The input half of the gates' sums, the input being `vd` beside `vr`. -/
def gi (vd vr : Fin 64 → EReal) (j : Fin 192) : EReal :=
  (∑ k : Fin 64, vd k * w.Wih j ⟨k.val, by omega⟩) + (∑ k : Fin 64, vr k * w.Wih j ⟨64 + k.val, by omega⟩) + w.bih j

/-- The hidden half. -/
def gh (h : Fin 64 → EReal) (j : Fin 192) : EReal := (∑ k : Fin 64, h k * w.Whh j k) + w.bhh j

/-- The update gate. -/
def zGate (vd vr h : Fin 64 → EReal) (i : Fin 64) : EReal :=
  Ideal.logistic (gi w vd vr ⟨64 + i.val, by omega⟩ + gh w h ⟨64 + i.val, by omega⟩)

/-- The hidden state after a step. -/
def gru (vd vr h : Fin 64 → EReal) (i : Fin 64) : EReal :=
  (1 - zGate w vd vr h i) * Ideal.tanh (gi w vd vr ⟨128 + i.val, by omega⟩
      + Ideal.logistic (gi w vd vr ⟨i.val, by omega⟩ + gh w h ⟨i.val, by omega⟩) * gh w h ⟨128 + i.val, by omega⟩)
    + zGate w vd vr h i * h i

/-- The readout of a hidden state. -/
def readout (h : Fin 64 → EReal) : EReal :=
  (∑ i : Fin 64, max ((∑ k : Fin 64, h k * w.W1a i k) + w.b1a i) 0 * w.W1b i) + w.b1b

/-- The value a step writes into the concept table, from the mastery `β` found there. -/
def written (vd vr : Fin 64 → EReal) (β : EReal) : EReal :=
  (∑ i : Fin 64, max ((∑ k : Fin 64, β * w.vc k * w.W2a i ⟨k.val, by omega⟩)
      + ((∑ k : Fin 64, vd k * w.W2a i ⟨64 + k.val, by omega⟩) + (∑ k : Fin 64, vr k * w.W2a i ⟨128 + k.val, by omega⟩))
      + w.b2a i) 0 * w.W2b i) + w.b2b

/-- The step's difficulty row. -/
def vdAt (t : Fin 50) (i : Fin 64) : EReal := w.D (ids.d t) * w.vd i
/-- The step's response row. -/
def vrAt (t : Fin 50) (i : Fin 64) : EReal := w.R (ids.r t) i

/-- The value step `t` writes into the concept table `C`. -/
def newAt (t : Fin 50) (C : Fin 1000 → EReal) : EReal := written w (vdAt w ids t) (vrAt w ids t) (C (ids.c t))

/-- One time step. -/
def step (t : Fin 50) (s : Row) : Row where
  h := gru w (vdAt w ids t) (vrAt w ids t) s.h
  C := fun k => if k = ids.c t then newAt w ids t s.C else s.C k

/-- The row's state before time step `n`. -/
def rowAt : ℕ → Row
  | 0 => ⟨fun _ => 0, fun _ => 0⟩
  | n + 1 => if hn : n < 50 then step w ids ⟨n, hn⟩ (rowAt n) else rowAt n

theorem rowAt_succ (t : Fin 50) : rowAt w ids (t.val + 1) = step w ids t (rowAt w ids t.val) := by
  rw [rowAt, dif_pos t.isLt]

end Cert.Proof.Model

end
-- ==== Proof.Words.lean ====
/- Words and picks: the packed id word taken apart, a sum or a word sum over a row that keeps one entry, and the last
   match of a concept in a stream of concepts. -/
module

public import Idealize.ShloMosaic.Lib.Affine
public import Idealize.ShloMosaic.Lib.SortNet.Extract
public import proofs.«01_k».proof.Proof.Model

@[expose] public section

noncomputable section

namespace Cert.Proof.Words

open Idealize.ShloMosaic

/-- A select on an equality of words. -/
theorem sel_eq {α : Type} (x y : BitVec 32) (p q : α) :
    Scalar.select (IntOp.cmpi .eq x y) p q = if x = y then p else q := by
  by_cases h : x = y
  · rw [if_pos h, IntOp.cmpi_eq.mpr h]; rfl
  · rw [if_neg h]
    exact if_neg fun hc => h (IntOp.cmpi_eq.mp hc)

/-- Small numbers are equal as words exactly when they are equal. -/
theorem ofNat_inj {x y : ℕ} (hx : x < 4294967296) (hy : y < 4294967296) :
    BitVec.ofNat 32 x = BitVec.ofNat 32 y ↔ x = y := by
  refine ⟨fun h => ?_, fun h => h ▸ rfl⟩
  have := congrArg BitVec.toNat h
  simp only [BitVec.toNat_ofNat] at this
  omega

/-- A sum that keeps the entries whose number is a given word keeps the one entry of that number. -/
theorem sum_pick {n : ℕ} (hn : n ≤ 4294967296) (f : Fin n → EReal) (t : Fin n) :
    (∑ x : Fin n, Scalar.select (IntOp.cmpi .eq (BitVec.ofNat 32 x.val) (BitVec.ofNat 32 t.val)) (f x) 0) = f t := by
  have h : ∀ x : Fin n, Scalar.select (IntOp.cmpi .eq (BitVec.ofNat 32 x.val) (BitVec.ofNat 32 t.val)) (f x) 0
      = if x = t then f x else 0 := fun x => by
    rw [sel_eq]
    refine if_congr ?_ rfl rfl
    rw [ofNat_inj (by omega) (by omega), Fin.ext_iff]
  simp only [h, Finset.sum_ite_eq', Finset.mem_univ, if_true]

/-- The same for a word sum. -/
theorem fold_pick {n : ℕ} (hn : n ≤ 4294967296) (f : Fin n → BitVec 32) (t : Fin n) :
    Finset.fold IntOp.addi 0#32
      (fun x : Fin n => Scalar.select (IntOp.cmpi .eq (BitVec.ofNat 32 x.val) (BitVec.ofNat 32 t.val)) (f x) 0#32) Finset.univ
      = f t := by
  have key : ∀ S : Finset (Fin n), Finset.fold IntOp.addi 0#32
      (fun x : Fin n => Scalar.select (IntOp.cmpi .eq (BitVec.ofNat 32 x.val) (BitVec.ofNat 32 t.val)) (f x) 0#32) S
      = if t ∈ S then f t else 0#32 := by
    intro S
    induction S using Finset.cons_induction with
    | empty => simp
    | cons a S ha ih =>
      rw [Finset.fold_cons, ih, sel_eq]
      rw [if_congr ((ofNat_inj (by omega) (by omega)).trans (Fin.ext_iff (a := a) (b := t)).symm) rfl rfl]
      by_cases h : a = t
      · subst h
        rw [if_pos rfl, if_neg ha, if_pos (Finset.mem_cons_self a S)]
        exact BitVec.add_zero _
      · have : (t ∈ Finset.cons a S ha) ↔ t ∈ S := by
          rw [Finset.mem_cons]; exact ⟨fun h' => h'.resolve_left fun e => h e.symm, Or.inr⟩
        rw [if_neg h, if_congr this rfl rfl]
        exact BitVec.zero_add _
  rw [key, if_pos (Finset.mem_univ t)]

/-- The packed word of a concept, a difficulty and a response. -/
def pack (c d : Fin 1000) (r : Fin 2) : BitVec 32 := BitVec.ofNat 32 (c.val + 1024 * d.val + 1048576 * r.val)

variable (c d : Fin 1000) (r : Fin 2)

theorem pack_toNat : (pack c d r).toNat = c.val + 1024 * d.val + 1048576 * r.val := by
  rw [pack, BitVec.toNat_ofNat, Nat.mod_eq_of_lt (by omega)]

theorem and_1023 (x : BitVec 32) : (IntOp.andi x 1023#32).toNat = x.toNat % 1024 := by
  show (x &&& 1023#32).toNat = _
  rw [BitVec.toNat_and]
  exact Nat.and_two_pow_sub_one_eq_mod x.toNat 10

theorem shr (x : BitVec 32) (n : ℕ) (hn : n < 32) (hx : x.toNat < 2147483648) :
    (IntOp.shrsi .vector x (BitVec.ofNat 32 n)).toNat = x.toNat / 2 ^ n := by
  have h : (BitVec.ofNat 32 n).toNat = n := by rw [BitVec.toNat_ofNat, Nat.mod_eq_of_lt (by omega)]
  rw [IntOp.shrsi, if_pos (by rw [h]; exact hn), BitVec.sshiftRight', h,
    BitVec.sshiftRight_eq_of_msb_false (by rw [BitVec.msb_eq_decide]; simpa using hx), BitVec.toNat_ushiftRight,
    Nat.shiftRight_eq_div_pow]

/-- The concept of a packed word, -/
theorem pack_c : IntOp.andi (pack c d r) 1023#32 = BitVec.ofNat 32 c.val := by
  apply BitVec.eq_of_toNat_eq
  rw [and_1023, pack_toNat, BitVec.toNat_ofNat]
  omega

/-- its difficulty, -/
theorem pack_d : IntOp.andi (IntOp.shrsi .vector (pack c d r) 10#32) 1023#32 = BitVec.ofNat 32 d.val := by
  apply BitVec.eq_of_toNat_eq
  rw [and_1023, shr _ 10 (by omega) (by rw [pack_toNat]; omega), pack_toNat, BitVec.toNat_ofNat]
  omega

/-- and its response. -/
theorem pack_r : IntOp.shrsi .vector (pack c d r) 20#32 = BitVec.ofNat 32 r.val := by
  apply BitVec.eq_of_toNat_eq
  rw [shr _ 20 (by omega) (by rw [pack_toNat]; omega), pack_toNat, BitVec.toNat_ofNat]
  omega

/-! ## The last match -/

variable (cs : Fin 50 → Fin 1000) (hist : Fin 50 → EReal)

/-- What a history holds at the last of the first `n` steps whose concept is `k`, 0 where there is none. -/
def lastAt (k : Fin 1000) : ℕ → EReal
  | 0 => 0
  | n + 1 => if h : n < 50 then if cs ⟨n, h⟩ = k then hist ⟨n, h⟩ else lastAt k n else lastAt k n

theorem lastAt_none (k : Fin 1000) (n : ℕ) (h : ∀ x : Fin 50, x.val < n → cs x ≠ k) : lastAt cs hist k n = 0 := by
  induction n with
  | zero => rfl
  | succ n ih =>
    have e := ih fun x hx => h x (by omega)
    rw [lastAt]
    split
    · rw [if_neg (h ⟨n, _⟩ (Nat.lt_succ_self n)), e]
    · exact e

theorem lastAt_some (k : Fin 1000) (n : ℕ) (x : Fin 50) (hx : x.val < n) (hc : cs x = k)
    (h : ∀ y : Fin 50, x.val < y.val → y.val < n → cs y ≠ k) : lastAt cs hist k n = hist x := by
  induction n with
  | zero => omega
  | succ n ih =>
    rw [lastAt]
    by_cases hn : n < 50
    · rw [dif_pos hn]
      by_cases hxn : x.val = n
      · have e : (⟨n, hn⟩ : Fin 50) = x := Fin.ext hxn.symm
        rw [e, if_pos hc]
      · rw [if_neg (h ⟨n, hn⟩ (by show x.val < n; omega) (Nat.lt_succ_self n))]
        exact ih (by omega) fun y h1 h2 => h y h1 (by omega)
    · rw [dif_neg hn]
      exact ih (by omega) fun y h1 h2 => h y h1 (by omega)

theorem lastAt_congr (hist' : Fin 50 → EReal) (k : Fin 1000) (n : ℕ) (h : ∀ x : Fin 50, x.val < n → hist x = hist' x) :
    lastAt cs hist k n = lastAt cs hist' k n := by
  induction n with
  | zero => rfl
  | succ n ih =>
    rw [lastAt, lastAt, ih fun x hx => h x (by omega)]
    split
    · rw [h ⟨n, _⟩ (Nat.lt_succ_self n)]
    · rfl

/-- The number of a step where its concept is the current one and it lies in the past, −1 elsewhere. -/
def matchNo (t x : Fin 50) : BitVec 32 := if cs x = cs t ∧ x.val < t.val then BitVec.ofNat 32 x.val else 4294967295#32

theorem toInt_step (x : Fin 50) : (BitVec.ofNat 32 x.val).toInt = x.val := by
  rw [BitVec.toInt_eq_toNat_of_lt (by rw [BitVec.toNat_ofNat]; omega), BitVec.toNat_ofNat, Nat.mod_eq_of_lt (by omega)]

/-- A history's entry at the last match: the sum that keeps the entries whose number is the greatest match number. -/
theorem sum_last (t : Fin 50) (init : BitVec 32) (hinit : init = 2147483648#32) :
    (∑ x : Fin 50, Scalar.select (IntOp.cmpi .eq (BitVec.ofNat 32 x.val)
        (Finset.fold IntOp.maxsi init (matchNo cs t) Finset.univ)) (hist x) 0)
      = lastAt cs hist (cs t) t.val := by
  obtain ⟨-, hge, hmem⟩ := SortNet.fold_maxsi_spec (matchNo cs t) Finset.univ init
  generalize Finset.fold IntOp.maxsi init (matchNo cs t) Finset.univ = M at hge hmem ⊢
  have hM : ∃ x, M = matchNo cs t x := by
    rcases hmem with h | ⟨x, -, h⟩
    · have h1 := hge t (Finset.mem_univ t)
      rw [matchNo, if_neg (by omega), h, hinit] at h1
      exact absurd h1 (by decide)
    · exact ⟨x, h⟩
  obtain ⟨x, rfl⟩ := hM
  by_cases hx : cs x = cs t ∧ x.val < t.val
  · rw [lastAt_some cs hist (cs t) t.val x hx.2 hx.1 ?_]
    · rw [matchNo, if_pos hx]
      exact sum_pick (by omega) hist x
    · intro y h1 h2 h3
      have h4 := hge y (Finset.mem_univ y)
      rw [matchNo, matchNo, if_pos ⟨h3, h2⟩, if_pos hx, toInt_step, toInt_step] at h4
      omega
  · rw [lastAt_none cs hist (cs t) t.val ?_]
    · rw [matchNo, if_neg hx]
      refine Finset.sum_eq_zero fun y _ => ?_
      rw [sel_eq, if_neg]
      intro e
      have := congrArg BitVec.toNat e
      simp only [BitVec.toNat_ofNat] at this
      omega
    · intro y h1 h2
      have h4 := hge y (Finset.mem_univ y)
      rw [matchNo, matchNo, if_pos ⟨h2, h1⟩, if_neg hx, toInt_step] at h4
      have h5 : (4294967295#32).toInt = -1 := by decide
      omega

/-- The select on a match: equal concept words and an earlier step. -/
theorem sel_match (t x : Fin 50) (p q : BitVec 32) (hp : p = BitVec.ofNat 32 (cs x).val) (hq : q = BitVec.ofNat 32 (cs t).val) :
    Scalar.select (IntOp.andi (IntOp.cmpi .eq p q) (IntOp.cmpi .slt (BitVec.ofNat 32 x.val) (BitVec.ofNat 32 t.val)))
      (BitVec.ofNat 32 x.val) 4294967295#32 = matchNo cs t x := by
  have h1 : IntOp.cmpi .eq p q = if cs x = cs t then 1#1 else 0#1 := by
    split
    · next h => exact IntOp.cmpi_eq.mpr (by rw [hp, hq, h])
    · next h =>
      refine (BitVec.eq_zero_or_eq_one _).resolve_right fun e => h ?_
      have e' := IntOp.cmpi_eq.mp e
      rw [hp, hq, ofNat_inj (by omega) (by omega)] at e'
      exact Fin.ext e'
  have h2 : IntOp.cmpi .slt (BitVec.ofNat 32 x.val) (BitVec.ofNat 32 t.val) = if x.val < t.val then 1#1 else 0#1 := by
    have e := IntOp.cmpi_slt (x := BitVec.ofNat 32 x.val) (y := BitVec.ofNat 32 t.val)
    rw [toInt_step, toInt_step] at e
    split
    · next h => exact e.mpr (by omega)
    · next h => exact (BitVec.eq_zero_or_eq_one _).resolve_right fun e' => h (by have := e.mp e'; omega)
  rw [h1, h2, matchNo]
  by_cases ha : cs x = cs t <;> by_cases hb : x.val < t.val
  · rw [if_pos ha, if_pos hb, if_pos ⟨ha, hb⟩]; rfl
  · rw [if_pos ha, if_neg hb, if_neg (fun h => hb h.2)]; rfl
  · rw [if_neg ha, if_pos hb, if_neg (fun h => ha h.1)]; rfl
  · rw [if_neg ha, if_neg hb, if_neg (fun h => ha h.1)]; rfl

end Cert.Proof.Words

end
-- ==== Proof.KStepMath.lean ====
/- One trip of the kernel at an index: each array the trip computes, as the row mathematics of its operands. -/
module

public import proofs.«01_k».proof.Proof.Model
public import proofs.«01_k».proof.Proof.Words
public import proofs.«01_k».proof.Proof.KernelIdealStep

@[expose] public section

set_option maxRecDepth 16384

noncomputable section

namespace Cert.Proof.KStepMath

open Cert.KernelIdeal Cert.KernelIdeal.Gen Cert.Proof.KernelIdeal Cert.Proof.Model Cert.Proof.Words
open Idealize.ShloMosaic

/-- The weights the kernel reads, of its inputs. -/
def wts (I : Ins Ideal) : Weights where
  D k := I.D (ix2 0 k)
  vd i := I.vd (ix2 0 i)
  vc i := I.vc (ix2 0 i)
  R r i := I.R (ix2 r i)
  Wih j k := I.Wih (ix2 j k)
  Whh j k := I.Whh (ix2 j k)
  bih j := I.bih (ix2 0 j)
  bhh j := I.bhh (ix2 0 j)
  W1a i k := I.W1a (ix2 i k)
  b1a i := I.b1a (ix2 0 i)
  W1b i := I.W1b (ix2 0 i)
  b1b := I.b1b (ix2 0 0)
  W2a i k := I.W2a (ix2 i k)
  b2a i := I.b2a (ix2 0 i)
  W2b i := I.W2b (ix2 0 i)
  b2b := I.b2b (ix2 0 0)

/-- A sum over 192 in its three thirds. -/
theorem sum_three (f : Fin 192 → EReal) : ∑ x, f x = (∑ k : Fin 64, f ⟨k.val, by omega⟩)
    + ((∑ k : Fin 64, f ⟨64 + k.val, by omega⟩) + ∑ k : Fin 64, f ⟨128 + k.val, by omega⟩) := by
  refine (Fin.sum_univ_add (a := 64) (b := 64 + 64) f).trans ?_
  rw [Fin.sum_univ_add (a := 64) (b := 64)]
  refine congrArg₂ (· + ·) rfl (congrArg₂ (· + ·) rfl (Finset.sum_congr rfl fun k _ => congrArg f (Fin.ext ?_)))
  show 64 + (64 + k.val) = 128 + k.val
  omega

/-- The same when the first factor is three pieces side by side. -/
theorem sum_pieces (A B C : Fin 64 → EReal) (g : Fin 192 → EReal) :
    (∑ x : Fin 192, (if h : x.val < 64 then A ⟨x.val, h⟩ else if h : x.val - 64 < 64 then B ⟨x.val - 64, h⟩
        else C ⟨x.val - 64 - 64, by omega⟩) * g x)
      = (∑ k, A k * g ⟨k.val, by omega⟩)
        + ((∑ k : Fin 64, B k * g ⟨64 + k.val, by omega⟩) + ∑ k : Fin 64, C k * g ⟨128 + k.val, by omega⟩) := by
  rw [sum_three]
  refine congrArg₂ (· + ·) (Finset.sum_congr rfl fun k _ => ?_) (congrArg₂ (· + ·)
    (Finset.sum_congr rfl fun k _ => ?_) (Finset.sum_congr rfl fun k _ => ?_))
  · rw [dif_pos k.isLt]
  · rw [dif_neg (by simp), dif_pos (by simp)]
    exact congrArg (B · * _) (Fin.ext (by simp))
  · rw [dif_neg (by simp; omega), dif_neg (by simp; omega)]
    exact congrArg (C · * _) (Fin.ext (by simp; omega))

variable (I : Ins Ideal)

/-- The hidden states after the step. -/
theorem gru_apply (vd : FVec Ideal S1024x64 .f32) (m : IVec S1024x64 1) (r1 r0 h : FVec Ideal S1024x64 .f32) (b : Fin 1024) (i : Fin 64) :
    k0_pay14 vd m r1 r0 h I.Wih I.bih I.Whh I.bhh (ix2 b i)
      = gru (wts I) (fun k => vd (ix2 b k)) (fun k => k0_pay13 m r1 r0 (ix2 b k)) (fun k => h (ix2 b k)) i := by
  unfold gru zGate gi gh wts
  pointwise [k0_pay14]

/-- The readout. -/
theorem readout_apply (h : FVec Ideal S1024x64 .f32) (b : Fin 1024) :
    k0_pay17 h I.W1a I.b1a I.W1b I.b1b (ix4 b 0 0 0) = readout (wts I) (fun k => h (ix2 b k)) := by
  unfold readout wts
  pointwise [k0_pay17]

/-- The value written. -/
theorem written_apply (vd vr mast : FVec Ideal S1024x64 .f32) (β : EReal) (b : Fin 1024) (hβ : ∀ k, mast (ix2 b k) = β) :
    k0_pay20 vd vr (k0_pay18 I.vc) mast I.W2a I.b2a I.W2b I.b2b (ix2 b 0)
      = written (wts I) (fun k => vd (ix2 b k)) (fun k => vr (ix2 b k)) β := by
  unfold written wts
  pointwise [k0_pay20, k0_pay18]
  simp only [hβ]
  have h3 := fun x : Fin 64 => sum_pieces (fun k => β * I.vc (ix2 0 k)) (fun k => vd (ix2 b k)) (fun k => vr (ix2 b k))
    (fun k => I.W2a (ix2 x k))
  simp only [h3]

/-! ## The words -/

variable {a : BitVec 32} {k : Fin k0_t1_loop.trips} {t : Fin 50} (ht : stepNo a k = BitVec.ofNat 32 t.val)
variable {b : Fin 1024} {ids : Ids} (hids : ∀ x : Fin 50, I.packed (ix2 b x) = pack (ids.c x) (ids.d x) (ids.r x))

include ht in
/-- The word a trip reads of a batch row is the row's packed word at the trip's step. -/
theorem word_apply : k0_pay7 a (k0_pay4 I.packed) stepCols 0#32 1#32 k (ix2 b 0) = I.packed (ix2 b t) := by
  pointwise [k0_pay7, k0_pay6, k0_pay4]
  rw [show Scalar.addi (Scalar.muli a 5#32) (Scf.iv 0#32 1#32 k.val) = _ from ht]
  exact fold_pick (by omega) (fun x => I.packed (ix2 b x)) t

include ht hids in
/-- The step's concept word. -/
theorem concept_apply : concept I a k (ix2 b 0) = BitVec.ofNat 32 (ids.c t).val := by
  have h := word_apply I ht (b := b)
  rw [hids] at h
  refine Eq.trans ?_ (pack_c (ids.c t) (ids.d t) (ids.r t))
  rw [← h]
  pointwise [k0_pay8]

include ht hids in
/-- The step's difficulty rows. -/
theorem vd_apply (i : Fin 64) : vdRow I a k (ix2 b i) = vdAt (wts I) ids t i := by
  have h := word_apply I ht (b := b)
  rw [hids] at h
  unfold vdAt wts
  pointwise [k0_pay9]
  rw [h, pack_d]
  exact congrArg (· * _) (sum_pick (by omega) (fun x => I.D (ix2 0 x)) (ids.d t))

include ht hids in
/-- The step's response rows. -/
theorem vr_apply (i : Fin 64) : vrRow I a k (ix2 b i) = vrAt (wts I) ids t i := by
  have h := word_apply I ht (b := b)
  rw [hids] at h
  unfold vrAt wts
  pointwise [k0_pay13, k0_pay10, k0_pay11, k0_pay12]
  rw [h, pack_r, sel_eq]
  by_cases hr : ids.r t = 1
  · rw [hr]; rfl
  · have h0 : ids.r t = 0 := by omega
    rw [h0]; rfl

include ht hids in
/-- The mastery read of the history. -/
theorem mastery_apply (s : Scr Ideal) (i : Fin 64) :
    mastery I a k s (ix2 b i) = lastAt ids.c (fun x => s.hist (ix2 b x)) (ids.c t) t.val := by
  have hc := concept_apply I ht hids
  rw [← sum_last ids.c (fun x => s.hist (ix2 b x)) t 2147483648#32 rfl]
  have hm : ∀ x : Fin 50, Scalar.select (IntOp.andi (IntOp.cmpi .eq (IntOp.andi (I.packed (ix2 b x)) 1023#32) (concept I a k (ix2 b 0)))
      (IntOp.cmpi .slt (BitVec.ofNat 32 x.val) (stepNo a k))) (BitVec.ofNat 32 x.val) 4294967295#32 = matchNo ids.c t x := fun x => by
    rw [hids, pack_c, hc, ht]
    exact sel_match ids.c t x _ _ rfl rfl
  simp only [← hm]
  unfold mastery
  pointwise [k0_pay19, k0_pay5, k0_pay4]

/-! ## The trip -/

variable (s : Scr Ideal)

include ht hids in
/-- The value the trip writes. -/
theorem new_apply : k0_pay20 (vdRow I a k) (vrRow I a k) (k0_pay18 I.vc) (mastery I a k s) I.W2a I.b2a I.W2b I.b2b (ix2 b 0)
    = written (wts I) (vdAt (wts I) ids t) (vrAt (wts I) ids t) (lastAt ids.c (fun x => s.hist (ix2 b x)) (ids.c t) t.val) := by
  rw [written_apply I _ _ _ _ b fun i => mastery_apply I ht hids s i]
  rw [show (fun i => vdRow I a k (ix2 b i)) = vdAt (wts I) ids t from funext fun i => vd_apply I ht hids i,
    show (fun i => vrRow I a k (ix2 b i)) = vrAt (wts I) ids t from funext fun i => vr_apply I ht hids i]

include ht hids in
/-- The hidden states after the trip. -/
theorem hNew_apply (i : Fin 64) : hNew I a k s (ix2 b i)
    = gru (wts I) (vdAt (wts I) ids t) (vrAt (wts I) ids t) (fun x => s.h (ix2 b x)) i := by
  unfold hNew
  rw [gru_apply]
  rw [show (fun i => vdRow I a k (ix2 b i)) = vdAt (wts I) ids t from funext fun i => vd_apply I ht hids i,
    show (fun i => vrRow I a k (ix2 b i)) = vrAt (wts I) ids t from funext fun i => vr_apply I ht hids i]

theorem store_h (vd : FVec Ideal S1024x64 .f32) (m : IVec S1024x64 1) (r1 r0 h : FVec Ideal S1024x64 .f32) (b : Fin 1024) (i : Fin 64) :
    k0_pay15 vd m r1 r0 h I.Wih I.bih I.Whh I.bhh (ix2 b i) = k0_pay14 vd m r1 r0 h I.Wih I.bih I.Whh I.bhh (ix2 b i) := by
  pointwise [k0_pay15]

theorem store_hist (m : IVec S1024x50 1) (vd vr mast : FVec Ideal S1024x64 .f32) (hist : Vec Ideal S1024x50 .f32) (b : Fin 1024) (x : Fin 50) :
    k0_pay21 m vd vr hist (k0_pay18 I.vc) mast I.W2a I.b2a I.W2b I.b2b (ix2 b x)
      = Scalar.select (m (ix2 b x)) (k0_pay20 vd vr (k0_pay18 I.vc) mast I.W2a I.b2a I.W2b I.b2b (ix2 b 0)) (hist (ix2 b x)) := by
  pointwise [k0_pay21]

include ht hids in
theorem trip_h (i : Fin 64) : (trip I a k s).h (ix2 b i)
    = gru (wts I) (vdAt (wts I) ids t) (vrAt (wts I) ids t) (fun x => s.h (ix2 b x)) i := by
  rw [← hNew_apply I ht hids s i]
  exact store_h I _ _ _ _ _ b i

include ht hids in
theorem trip_hist (x : Fin 50) : (trip I a k s).hist (ix2 b x)
    = if x = t then written (wts I) (vdAt (wts I) ids t) (vrAt (wts I) ids t) (lastAt ids.c (fun x => s.hist (ix2 b x)) (ids.c t) t.val)
      else s.hist (ix2 b x) := by
  rw [← new_apply I ht hids s]
  have e : (trip I a k s).hist (ix2 b x) = Scalar.select (IntOp.cmpi .eq (BitVec.ofNat 32 x.val) (stepNo a k))
      (k0_pay20 (vdRow I a k) (vrRow I a k) (k0_pay18 I.vc) (mastery I a k s) I.W2a I.b2a I.W2b I.b2b (ix2 b 0)) (s.hist (ix2 b x)) := by
    exact (store_hist I (atStep a k) (vdRow I a k) (vrRow I a k) (mastery I a k s) s.hist b x).trans
      (congrArg (Scalar.select · _ _) (by pointwise [k0_pay6]))
  rw [e, ht, sel_eq, if_congr ((ofNat_inj (by omega) (by omega)).trans Fin.ext_iff.symm) rfl rfl]

include ht hids in
/-- The concept tables after the trip, in the output row, -/
theorem tripC_apply (x : Fin 1000) : tripC I a k s (ix4 b 0 0 x)
    = if x = ids.c t then written (wts I) (vdAt (wts I) ids t) (vrAt (wts I) ids t) (lastAt ids.c (fun x => s.hist (ix2 b x)) (ids.c t) t.val)
      else s.C (ix2 b x) := by
  rw [← new_apply I ht hids s]
  have e : tripC I a k s (ix4 b 0 0 x) = Scalar.select (IntOp.cmpi .eq (BitVec.ofNat 32 x.val) (concept I a k (ix2 b 0)))
      (k0_pay20 (vdRow I a k) (vrRow I a k) (k0_pay18 I.vc) (mastery I a k s) I.W2a I.b2a I.W2b I.b2b (ix2 b 0)) (s.C (ix2 b x)) := by
    unfold tripC
    pointwise [k0_pay24, k0_pay22]
  rw [e, concept_apply I ht hids, sel_eq, if_congr ((ofNat_inj (by omega) (by omega)).trans Fin.ext_iff.symm) rfl rfl]

/-- and in the scratch. -/
theorem trip_C (x : Fin 1000) : (trip I a k s).C (ix2 b x) = tripC I a k s (ix4 b 0 0 x) := by
  unfold trip tripC
  pointwise [k0_pay23, k0_pay24]

/-- The hidden states' output row. -/
theorem tripH_apply (i : Fin 64) : tripH I a k s (ix4 b 0 0 i) = hNew I a k s (ix2 b i) := by
  unfold tripH
  pointwise [k0_pay16]

end Cert.Proof.KStepMath

end
-- ==== Proof.KRows.lean ====
/- The kernel's scratch after any number of steps, and the blocks a point writes, as the row model's states. -/
module

public import proofs.«01_k».proof.Proof.KStepMath

@[expose] public section

set_option maxRecDepth 16384

noncomputable section

namespace Cert.Proof.KRows

open Cert.KernelIdeal Cert.KernelIdeal.Gen Cert.Proof.KernelIdeal Cert.Proof.Model Cert.Proof.Words Cert.Proof.KStepMath
open Idealize.ShloMosaic

/-- The concept table holds, at a concept, the value written at the concept's last step so far. -/
theorem lastAt_newAt (w : Weights) (ids : Ids) (k : Fin 1000) (n : ℕ) :
    lastAt ids.c (fun x => newAt w ids x (rowAt w ids x.val).C) k n = (rowAt w ids n).C k := by
  induction n with
  | zero => rfl
  | succ n ih =>
    rw [lastAt, rowAt]
    by_cases hn : n < 50
    · rw [dif_pos hn, dif_pos hn, ih]
      exact if_congr eq_comm rfl rfl
    · rw [dif_neg hn, dif_neg hn, ih]

/-- The scratch holds, at batch row `b`, the model's state before step `n` and the values written so far. -/
structure Holds (w : Weights) (ids : Ids) (b : Fin 1024) (n : ℕ) (s : Scr Ideal) : Prop where
  h : ∀ i : Fin 64, s.h (ix2 b i) = (rowAt w ids n).h i
  C : ∀ k : Fin 1000, s.C (ix2 b k) = (rowAt w ids n).C k
  hist : ∀ x : Fin 50, x.val < n → s.hist (ix2 b x) = newAt w ids x (rowAt w ids x.val).C

variable (I : Ins Ideal) {b : Fin 1024} {ids : Ids}
variable (hids : ∀ x : Fin 50, I.packed (ix2 b x) = pack (ids.c x) (ids.d x) (ids.r x))

/-- The mastery a trip reads is the table's entry at the step's concept. -/
theorem mastery_model {t : Fin 50} {s : Scr Ideal} (hs : Holds (wts I) ids b t.val s) :
    lastAt ids.c (fun x => s.hist (ix2 b x)) (ids.c t) t.val = (rowAt (wts I) ids t.val).C (ids.c t) :=
  (lastAt_congr ids.c _ _ _ _ hs.hist).trans (lastAt_newAt (wts I) ids (ids.c t) t.val)

section
variable {a : BitVec 32} {k : Fin k0_t1_loop.trips} {t : Fin 50} (ht : stepNo a k = BitVec.ofNat 32 t.val)
variable {s : Scr Ideal} (hs : Holds (wts I) ids b t.val s)

include ht hids hs in
/-- The hidden state after a trip, -/
theorem hNew_model (i : Fin 64) : hNew I a k s (ix2 b i) = (rowAt (wts I) ids (t.val + 1)).h i := by
  rw [hNew_apply I ht hids s i, show (fun x => s.h (ix2 b x)) = _ from funext hs.h, rowAt_succ]
  rfl

include ht hids hs in
/-- and the concept table. -/
theorem tripC_model (x : Fin 1000) : tripC I a k s (ix4 b 0 0 x) = (rowAt (wts I) ids (t.val + 1)).C x := by
  rw [tripC_apply I ht hids s x, mastery_model I hs, hs.C, rowAt_succ]
  rfl

include ht hids hs in
/-- A trip takes the model one step. -/
theorem holds_trip : Holds (wts I) ids b (t.val + 1) (trip I a k s) where
  h i := (trip_h I ht hids s i).trans ((hNew_apply I ht hids s i).symm.trans (hNew_model I hids ht hs i))
  C x := (trip_C I s x).trans (tripC_model I hids ht hs x)
  hist x hx := by
    rw [trip_hist I ht hids s x]
    by_cases e : x = t
    · rw [if_pos e, mastery_model I hs, e]
      rfl
    · rw [if_neg e]
      exact hs.hist x (by have := fun h => e (Fin.ext h); omega)
end

/-- The step number of a trip. -/
theorem stepNo_eq (n : ℕ) (k : Fin k0_t1_loop.trips) :
    stepNo (BitVec.ofNat 32 n) k = BitVec.ofNat 32 (5 * n + k.val) := by
  show BitVec.ofNat 32 n * 5#32 + (0#32 + BitVec.ofNat 32 k.val * 1#32) = _
  apply BitVec.eq_of_toNat_eq
  simp only [BitVec.toNat_add, BitVec.toNat_mul, BitVec.toNat_ofNat]
  omega

include hids in
/-- The trips of a point take the model five steps, one each. -/
theorem holds_scrAt (p : Fin 10) {s : Scr Ideal} (hs : Holds (wts I) ids b (5 * p.val) s) (j : ℕ) (hj : j ≤ 5) :
    Holds (wts I) ids b (5 * p.val + j) (scrAt I (BitVec.ofNat 32 p.val) s j) := by
  induction j with
  | zero => exact hs
  | succ j ih =>
    have e := scrAt_succ I (BitVec.ofNat 32 p.val) (⟨j, by rw [trips_eq]; omega⟩ : Fin k0_t1_loop.trips) s
    rw [e]
    exact holds_trip I hids (t := ⟨5 * p.val + j, by omega⟩) (stepNo_eq p.val _) (ih (by omega))

include hids in
/-- A point starts from the model's state after five steps for every point before it. -/
theorem holds_point (n : ℕ) (hn : n ≤ 10) : Holds (wts I) ids b (5 * n) (pointScr I n) := by
  induction n with
  | zero =>
    refine ⟨fun i => ?_, fun k => ?_, fun x hx => absurd hx (by omega)⟩
    · show k0_pay1 (F := Ideal) (ix2 b i) = 0
      pointwise [k0_pay1]
    · show k0_pay2 (F := Ideal) (ix2 b k) = 0
      pointwise [k0_pay2]
  | succ n ih => exact holds_scrAt I hids ⟨n, by omega⟩ (ih (by omega)) 5 le_rfl

section
variable (p : Fin 10) (j : Fin 5)

include hids in
theorem holds_row : Holds (wts I) ids b (⟨5 * p.val + j.val, by omega⟩ : Fin 50).val
    (scrAt I (BitVec.ofNat 32 p.val) (pointScr I p.val) j.val) :=
  holds_scrAt I hids p (holds_point I hids p.val (by omega)) j.val (by omega)

include hids in
/-- The readout block of a point: row `j` is the readout of the state after step `5p + j`. -/
theorem blockA_model : blockA I (BitVec.ofNat 32 p.val) (pointScr I p.val) (ix4 b j 0 0)
    = readout (wts I) (rowAt (wts I) ids (5 * p.val + j.val + 1)).h := by
  refine Eq.trans (readout_apply I _ b) (congrArg (readout (wts I)) (funext fun i => ?_))
  exact hNew_model I hids (stepNo_eq p.val (rowTrip j)) (holds_row I hids p j) i

include hids in
/-- The hidden states' block, -/
theorem blockH_model (i : Fin 64) : blockH I (BitVec.ofNat 32 p.val) (pointScr I p.val) (ix4 b j 0 i)
    = (rowAt (wts I) ids (5 * p.val + j.val + 1)).h i :=
  (tripH_apply I _ i).trans (hNew_model I hids (stepNo_eq p.val (rowTrip j)) (holds_row I hids p j) i)

include hids in
/-- and the concept tables' block. -/
theorem blockC_model (x : Fin 1000) : blockC I (BitVec.ofNat 32 p.val) (pointScr I p.val) (ix4 b j 0 x)
    = (rowAt (wts I) ids (5 * p.val + j.val + 1)).C x :=
  tripC_model I hids (stepNo_eq p.val (rowTrip j)) (holds_row I hids p j) x
end

end Cert.Proof.KRows

end
-- ==== Proof.KArrays.lean ====
/- The arrays the kernel's launch leaves: every element of the three results as the row model's states. -/
module

public import proofs.«01_k».proof.Proof.KRows
public import proofs.«01_k».proof.Proof.KernelIdealRun

@[expose] public section

set_option maxRecDepth 16384

noncomputable section

namespace Cert.Proof.KArrays

open Cert.KernelIdeal Cert.KernelIdeal.Gen Cert.Proof.KernelIdeal Cert.Proof.Model Cert.Proof.Words Cert.Proof.KStepMath Cert.Proof.KRows
open Idealize.ShloMosaic Idealize.ShloMosaic.TcCoe Idealize.SL

variable (m : (ℓ : Loc nD τ sig) → Buf (Elt Ideal) ℓ) (c : Dev nD)
variable (ids : Fin 1024 → Ids)
variable (hids : ∀ b x, (insAt m c).packed (ix2 b x) = pack ((ids b).c x) ((ids b).d x) ((ids b).r x))

/-- The model's state of batch row `b` after step `n`. -/
abbrev rowOf (b : Fin 1024) (n : ℕ) : Row := rowAt (wts (insAt m c)) (ids b) (n + 1)

/-- The readouts, as the launch lays them out, -/
def arrA : Vec Ideal S1024x50x1x1 .f32 := fun y => readout (wts (insAt m c)) (rowOf m c ids (y 0) (y 1).val).h
/-- the hidden states, -/
def arrH : Vec Ideal S1024x50x1x64 .f32 := fun y => (rowOf m c ids (y 0) (y 1).val).h (y 3)
/-- and the concept tables. -/
def arrC : Vec Ideal S1024x50x1x1000 .f32 := fun y => (rowOf m c ids (y 0) (y 1).val).C (y 3)

/-- The output windows' block of point `p`. -/
theorem index_out : (∀ t : Fin cfg0.N, win0_17.index t = ![0, t.val, 0, 0]) ∧ (∀ t : Fin cfg0.N, win0_18.index t = ![0, t.val, 0, 0])
    ∧ ∀ t : Fin cfg0.N, win0_19.index t = ![0, t.val, 0, 0] := by
  refine ⟨?_, ?_, ?_⟩ <;> decide +kernel

/-- An element of the readout block, wherever the block lies. -/
theorem block_A (hids : ∀ b x, (insAt m c).packed (ix2 b x) = pack ((ids b).c x) ((ids b).d x) ((ids b).r x))
    (p : Fin 10) (y : S1024x5x1x1.Idx) (z : S1024x50x1x1.Idx) (e0 : (z 0 : ℕ) = (y 0 : ℕ)) (e1 : (z 1 : ℕ) = 5 * p.val + (y 1 : ℕ)) :
    blockA (insAt m c) (BitVec.ofNat 32 p.val) (pointScr (insAt m c) p.val) y = arrA m c ids z := by
  obtain ⟨b, j, u, v, rfl⟩ : ∃ b j u v, y = ix4 b j u v := ⟨y 0, y 1, y 2, y 3, eq_ix4 y⟩
  obtain rfl : u = 0 := Fin.fin_one_eq_zero u
  obtain rfl : v = 0 := Fin.fin_one_eq_zero v
  refine (blockA_model (insAt m c) (hids b) p j).trans ?_
  have hb : z 0 = b := Fin.ext e0
  have hj : (z 1 : ℕ) = 5 * p.val + j.val := e1
  unfold arrA rowOf
  rw [hb, hj]

/-- An element of the hidden states' block, -/
theorem block_H (hids : ∀ b x, (insAt m c).packed (ix2 b x) = pack ((ids b).c x) ((ids b).d x) ((ids b).r x))
    (p : Fin 10) (y : S1024x5x1x64.Idx) (z : S1024x50x1x64.Idx) (e0 : (z 0 : ℕ) = (y 0 : ℕ)) (e1 : (z 1 : ℕ) = 5 * p.val + (y 1 : ℕ))
    (e3 : (z 3 : ℕ) = (y 3 : ℕ)) :
    blockH (insAt m c) (BitVec.ofNat 32 p.val) (pointScr (insAt m c) p.val) y = arrH m c ids z := by
  obtain ⟨b, j, u, v, rfl⟩ : ∃ b j u v, y = ix4 b j u v := ⟨y 0, y 1, y 2, y 3, eq_ix4 y⟩
  obtain rfl : u = 0 := Fin.fin_one_eq_zero u
  refine (blockH_model (insAt m c) (hids b) p j v).trans ?_
  have hb : z 0 = b := Fin.ext e0
  have hv : z 3 = v := Fin.ext e3
  have hj : (z 1 : ℕ) = 5 * p.val + j.val := e1
  unfold arrH rowOf
  rw [hb, hj, hv]

/-- and of the concept tables' block. -/
theorem block_C (hids : ∀ b x, (insAt m c).packed (ix2 b x) = pack ((ids b).c x) ((ids b).d x) ((ids b).r x))
    (p : Fin 10) (y : S1024x5x1x1000.Idx) (z : S1024x50x1x1000.Idx) (e0 : (z 0 : ℕ) = (y 0 : ℕ)) (e1 : (z 1 : ℕ) = 5 * p.val + (y 1 : ℕ))
    (e3 : (z 3 : ℕ) = (y 3 : ℕ)) :
    blockC (insAt m c) (BitVec.ofNat 32 p.val) (pointScr (insAt m c) p.val) y = arrC m c ids z := by
  obtain ⟨b, j, u, v, rfl⟩ : ∃ b j u v, y = ix4 b j u v := ⟨y 0, y 1, y 2, y 3, eq_ix4 y⟩
  obtain rfl : u = 0 := Fin.fin_one_eq_zero u
  refine (blockC_model (insAt m c) (hids b) p j v).trans ?_
  have hb : z 0 = b := Fin.ext e0
  have hv : z 3 = v := Fin.ext e3
  have hj : (z 1 : ℕ) = 5 * p.val + j.val := e1
  unfold arrC rowOf
  rw [hb, hj, hv]

include hids in
/-- The readouts the launch leaves, -/
theorem final_A : (dats m 0 c).arrAt 17 cfg0.N = arrA m c ids := by
  refine (dats m 0 c).arrAt_eq_of_covers 17 _ (by decide +kernel) fun t hf y => ?_
  blk_simp
  rw [after0_17]
  refine block_A m c ids hids t y _ ?_ ?_
  · blk_simp [index_out.1]
  · blk_simp [index_out.1]
    exact congrArg (· + _) (Nat.mul_comm _ _)

include hids in
/-- the hidden states, -/
theorem final_H : (dats m 0 c).arrAt 18 cfg0.N = arrH m c ids := by
  refine (dats m 0 c).arrAt_eq_of_covers 18 _ (by decide +kernel) fun t hf y => ?_
  blk_simp
  rw [after0_18]
  refine block_H m c ids hids t y _ ?_ ?_ ?_
  · blk_simp [index_out.2.1]
  · blk_simp [index_out.2.1]
    exact congrArg (· + _) (Nat.mul_comm _ _)
  · blk_simp [index_out.2.1]

include hids in
/-- and the concept tables. -/
theorem final_C : (dats m 0 c).arrAt 19 cfg0.N = arrC m c ids := by
  refine (dats m 0 c).arrAt_eq_of_covers 19 _ (by decide +kernel) fun t hf y => ?_
  blk_simp
  rw [after0_19]
  refine block_C m c ids hids t y _ ?_ ?_ ?_
  · blk_simp [index_out.2.2]
  · blk_simp [index_out.2.2]
    exact congrArg (· + _) (Nat.mul_comm _ _)
  · blk_simp [index_out.2.2]

/-- The windows stage different arrays. -/
theorem arrRef_inj : Function.Injective (Pipeline.arrRef spec0) := by decide +kernel

variable {r : PUnit × MemSt nD τ sig (Elt Ideal)}
variable (h : Pipeline.FramePost cfgs (dats m) 0 (Pipeline.afterTail₀ cfgs (dats m) 0 (V0 m) [hostOps1]) r)

include hids h in
/-- The first result is the readouts, -/
theorem res_A : r.2.mem ((c.tc : Thread nD τ).loc main_v19) = shapeCast S1024x50 (arrA m c ids) shapeCasts_S1024x50x1x1_S1024x50 := by
  refine ((h c).2 main_v19 (Pipeline.mem_restRefs_of main_v19 (by decide) (by decide))).trans ?_
  show StableHlo.after hostOps1 (Pipeline.withArrays spec0 c (V0 m c) fun w => (dats m 0 c).arrAt w cfg0.N) (Proc.devRef .tc main_v19) = _
  after_results
  exact congrArg (fun a => shapeCast S1024x50 a shapeCasts_S1024x50x1x1_S1024x50)
    ((Pipeline.withArrays_arr spec0 arrRef_inj c _ _ 17).trans (final_A m c ids hids))

include hids h in
/-- the second the hidden states, -/
theorem res_H : r.2.mem ((c.tc : Thread nD τ).loc main_v20) = shapeCast S1024x50x64 (arrH m c ids) shapeCasts_S1024x50x1x64_S1024x50x64 := by
  refine ((h c).2 main_v20 (Pipeline.mem_restRefs_of main_v20 (by decide) (by decide))).trans ?_
  show StableHlo.after hostOps1 (Pipeline.withArrays spec0 c (V0 m c) fun w => (dats m 0 c).arrAt w cfg0.N) (Proc.devRef .tc main_v20) = _
  after_results
  exact congrArg (fun a => shapeCast S1024x50x64 a shapeCasts_S1024x50x1x64_S1024x50x64)
    ((Pipeline.withArrays_arr spec0 arrRef_inj c _ _ 18).trans (final_H m c ids hids))

include hids h in
/-- and the third the concept tables. -/
theorem res_C : r.2.mem ((c.tc : Thread nD τ).loc main_v21) = shapeCast S1024x50x1000 (arrC m c ids) shapeCasts_S1024x50x1x1000_S1024x50x1000 := by
  refine ((h c).2 main_v21 (Pipeline.mem_restRefs_of main_v21 (by decide) (by decide))).trans ?_
  show StableHlo.after hostOps1 (Pipeline.withArrays spec0 c (V0 m c) fun w => (dats m 0 c).arrAt w cfg0.N) (Proc.devRef .tc main_v21) = _
  after_results
  exact congrArg (fun a => shapeCast S1024x50x1000 a shapeCasts_S1024x50x1x1000_S1024x50x1000)
    ((Pipeline.withArrays_arr spec0 arrRef_inj c _ _ 19).trans (final_C m c ids hids))

end Cert.Proof.KArrays

end
-- ==== Proof.KIns.lean ====
/- What the launch reads, of the argument arrays: the weights, and under the precondition the packed words. -/
module

public import proofs.«01_k».proof.Defs
public import proofs.«01_k».proof.Proof.KArrays

@[expose] public section

set_option maxRecDepth 16384

noncomputable section

namespace Cert.Proof.KIns

open Cert.KernelIdeal Cert.KernelIdeal.Gen Cert.Proof.KernelIdeal Cert.Proof.Model Cert.Proof.Words Cert.Proof.KStepMath
open Idealize.ShloMosaic Idealize.ShloMosaic.TcCoe Idealize.SL

variable (m : (ℓ : Loc nD τ sig) → Buf (Elt Ideal) ℓ) (c : Dev nD)

/-- An argument array. -/
abbrev arg (b : Ref sig .tc) : Buf (Elt Ideal) ((c.tc : Thread nD τ).loc b) := m ((c.tc : Thread nD τ).loc b)

/-- The weights, of the argument arrays. -/
def argW : Weights where
  D k := arg m c main_arg5 (ix2 k 0)
  vd i := arg m c main_arg6 (ix1 i)
  vc i := arg m c main_arg7 (ix1 i)
  R r i := arg m c main_arg8 (ix2 r i)
  Wih j k := arg m c main_arg9 (ix2 j k)
  Whh j k := arg m c main_arg10 (ix2 j k)
  bih j := arg m c main_arg11 (ix1 j)
  bhh j := arg m c main_arg12 (ix1 j)
  W1a i k := arg m c main_arg13 (ix2 i k)
  b1a i := arg m c main_arg14 (ix1 i)
  W1b i := arg m c main_arg15 (ix2 0 i)
  b1b := arg m c main_arg16 (ix1 0)
  W2a i k := arg m c main_arg17 (ix2 i k)
  b2a i := arg m c main_arg18 (ix1 i)
  W2b i := arg m c main_arg19 (ix2 0 i)
  b2b := arg m c main_arg20 (ix1 0)

/-! The host's reshapes, each of an argument. -/

theorem V_v7 : V m c main_v7 = shapeCast S1x1000 (arg m c main_arg5) shapeCasts_S1000x1_S1x1000 := by
  show StableHlo.after hostOps0 _ _ = _
  after_results
  rfl

theorem V_v8 : V m c main_v8 = shapeCast S1x64 (arg m c main_arg6) shapeCasts_S64_S1x64 := by
  show StableHlo.after hostOps0 _ _ = _
  after_results
  rfl

theorem V_v9 : V m c main_v9 = shapeCast S1x64 (arg m c main_arg7) shapeCasts_S64_S1x64 := by
  show StableHlo.after hostOps0 _ _ = _
  after_results
  rfl

theorem V_v10 : V m c main_v10 = shapeCast S1x192 (arg m c main_arg11) shapeCasts_S192_S1x192 := by
  show StableHlo.after hostOps0 _ _ = _
  after_results
  rfl

theorem V_v11 : V m c main_v11 = shapeCast S1x192 (arg m c main_arg12) shapeCasts_S192_S1x192 := by
  show StableHlo.after hostOps0 _ _ = _
  after_results
  rfl

theorem V_v12 : V m c main_v12 = shapeCast S1x64 (arg m c main_arg14) shapeCasts_S64_S1x64 := by
  show StableHlo.after hostOps0 _ _ = _
  after_results
  rfl

theorem V_v14 : V m c main_v14 = shapeCast S1x1 (arg m c main_arg16) shapeCasts_S1_S1x1 := by
  show StableHlo.after hostOps0 _ _ = _
  after_results
  rfl

theorem V_v15 : V m c main_v15 = shapeCast S1x64 (arg m c main_arg18) shapeCasts_S64_S1x64 := by
  show StableHlo.after hostOps0 _ _ = _
  after_results
  rfl

theorem V_v17 : V m c main_v17 = shapeCast S1x1 (arg m c main_arg20) shapeCasts_S1_S1x1 := by
  show StableHlo.after hostOps0 _ _ = _
  after_results
  rfl

/-! The two last layers, padded below with seven rows of zeros. -/

theorem V_v13 : V m c main_v13 = concatenate S8x64 0 [⟨S1x64, (arg m c main_arg15 : Vec Ideal S1x64 .f32)⟩,
    ⟨S7x64, (broadcastInDim S7x64 ![] bcast_S_S7x64 (constant (F := Ideal) S_ .f32 0x00000000#32) : Vec Ideal S7x64 .f32)⟩]
    concatenates_S1x64_S7x64_S8x64_d0 := by
  show StableHlo.after hostOps0 _ _ = _
  after_results

theorem V_v16 : V m c main_v16 = concatenate S8x64 0 [⟨S1x64, (arg m c main_arg19 : Vec Ideal S1x64 .f32)⟩,
    ⟨S7x64, (broadcastInDim S7x64 ![] bcast_S_S7x64 (constant (F := Ideal) S_ .f32 0x00000000#32) : Vec Ideal S7x64 .f32)⟩]
    concatenates_S1x64_S7x64_S8x64_d0 := by
  show StableHlo.after hostOps0 _ _ = _
  after_results

/-- The packed words: the concept, the difficulty shifted by 10, the response shifted by 20. -/
theorem V_v6 : V m c main_v6 = addi (addi (arg m c main_arg1) (Host.shli (arg m c main_arg3)
      (broadcastInDim S1024x50 ![] bcast_S_S1024x50 (constantI S_ 32 10#32))))
    (Host.shli (arg m c main_arg4) (broadcastInDim S1024x50 ![] bcast_S_S1024x50 (constantI S_ 32 20#32))) := by
  show StableHlo.after hostOps0 _ _ = _
  after_results

/-! A vector as a one-row matrix, a column as a row, and a row above zeros, at an index. -/

theorem row64 (x : Vec Ideal S64 .f32) (i : Fin 64) : shapeCast S1x64 x shapeCasts_S64_S1x64 (ix2 0 i) = x (ix1 i) := by
  pointwise []

theorem row192 (x : Vec Ideal S192 .f32) (i : Fin 192) : shapeCast S1x192 x shapeCasts_S192_S1x192 (ix2 0 i) = x (ix1 i) := by
  pointwise []

theorem row1 (x : Vec Ideal S1 .f32) : shapeCast S1x1 x shapeCasts_S1_S1x1 (ix2 0 0) = x (ix1 0) := by
  pointwise []

theorem row1000 (x : Vec Ideal S1000x1 .f32) (i : Fin 1000) : shapeCast S1x1000 x shapeCasts_S1000x1_S1x1000 (ix2 0 i) = x (ix2 i 0) := by
  pointwise []

theorem padded (x : Vec Ideal S1x64 .f32) (z : Vec Ideal S7x64 .f32) (i : Fin 64) :
    concatenate S8x64 0 [⟨S1x64, x⟩, ⟨S7x64, z⟩] concatenates_S1x64_S7x64_S8x64_d0 (ix2 0 i) = x (ix2 0 i) := by
  pointwise []

set_option maxHeartbeats 1000000 in
/-- The weights the launch reads are the arguments'. -/
theorem wts_eq : wts (insAt m c) = argW m c := by
  apply Weights.ext
  · exact funext fun k => (congrFun (V_v7 m c) _).trans (row1000 _ k)
  · exact funext fun k => (congrFun (V_v8 m c) _).trans (row64 _ k)
  · exact funext fun k => (congrFun (V_v9 m c) _).trans (row64 _ k)
  · exact funext fun j => funext fun k => congrFun (V_main_arg8 m c) (ix2 j k)
  · exact funext fun j => funext fun k => congrFun (V_main_arg9 m c) (ix2 j k)
  · exact funext fun j => funext fun k => congrFun (V_main_arg10 m c) (ix2 j k)
  · exact funext fun k => (congrFun (V_v10 m c) _).trans (row192 _ k)
  · exact funext fun k => (congrFun (V_v11 m c) _).trans (row192 _ k)
  · exact funext fun j => funext fun k => congrFun (V_main_arg13 m c) (ix2 j k)
  · exact funext fun k => (congrFun (V_v12 m c) _).trans (row64 _ k)
  · exact funext fun k => (congrFun (V_v13 m c) _).trans (padded _ _ k)
  · exact (congrFun (V_v14 m c) _).trans (row1 _)
  · exact funext fun j => funext fun k => congrFun (V_main_arg17 m c) (ix2 j k)
  · exact funext fun k => (congrFun (V_v15 m c) _).trans (row64 _ k)
  · exact funext fun k => (congrFun (V_v16 m c) _).trans (padded _ _ k)
  · exact (congrFun (V_v17 m c) _).trans (row1 _)

/-- The ids an index array's words spell. -/
def SpellIds (a1 a3 a4 : IVec S1024x50 32) (ids : Fin 1024 → Ids) : Prop :=
  ∀ b t, a1 (ix2 b t) = BitVec.ofNat 32 ((ids b).c t).val ∧ a3 (ix2 b t) = BitVec.ofNat 32 ((ids b).d t).val
    ∧ a4 (ix2 b t) = BitVec.ofNat 32 ((ids b).r t).val

/-- A word between 0 and a bound spells a number below the bound. -/
theorem spell_of_range (n : ℕ) (hn : n ≤ 1000) (x : BitVec 32) (h0 : (0#32).toInt ≤ x.toInt) (h1 : x.toInt < (BitVec.ofNat 32 n).toInt) :
    ∃ v : Fin n, x = BitVec.ofNat 32 v.val := by
  have h2 : (BitVec.ofNat 32 n).toInt = n := by
    rw [BitVec.toInt_eq_toNat_of_lt (by rw [BitVec.toNat_ofNat]; omega), BitVec.toNat_ofNat, Nat.mod_eq_of_lt (by omega)]
  have h3 : x.toNat < n := by
    rw [h2] at h1
    have h4 : (0#32).toInt = 0 := by decide
    rw [h4] at h0
    have := BitVec.toInt_eq_toNat_cond x
    have h5 := x.isLt
    split at this <;> omega
  exact ⟨⟨x.toNat, h3⟩, by rw [BitVec.ofNat_toNat]; rfl⟩

section
variable [hP : Cert.Pre_ids_in_range.Facts]

/-- Under the precondition the index arrays spell ids. -/
theorem ids_of_pre (hpre : Cert.Pre_KernelIdeal_ids_in_range m) :
    ∃ ids, SpellIds (arg m c main_arg1) (arg m c main_arg3) (arg m c main_arg4) ids := by
  have key : ∀ b t, ∃ u v : Fin 1000, ∃ w : Fin 2, arg m c main_arg1 (ix2 b t) = BitVec.ofNat 32 u.val
      ∧ arg m c main_arg3 (ix2 b t) = BitVec.ofNat 32 v.val ∧ arg m c main_arg4 (ix2 b t) = BitVec.ofNat 32 w.val := by
    intro b t
    have h : IntOp.andi (IntOp.andi (IntOp.andi (IntOp.andi (IntOp.andi (IntOp.cmpi .sge (arg m c main_arg1 (ix2 b t)) 0#32)
        (IntOp.cmpi .slt (arg m c main_arg1 (ix2 b t)) 1000#32)) (IntOp.cmpi .sge (arg m c main_arg3 (ix2 b t)) 0#32))
        (IntOp.cmpi .slt (arg m c main_arg3 (ix2 b t)) 1000#32)) (IntOp.cmpi .sge (arg m c main_arg4 (ix2 b t)) 0#32))
        (IntOp.cmpi .slt (arg m c main_arg4 (ix2 b t)) 2#32) = 1#1 := congrFun (hpre c) (ix2 b t)
    simp only [IntOp.andi_eq_one, IntOp.cmpi_sge, IntOp.cmpi_slt] at h
    obtain ⟨⟨⟨⟨⟨h1, h2⟩, h3⟩, h4⟩, h5⟩, h6⟩ := h
    obtain ⟨u, hu⟩ := spell_of_range 1000 (by omega) _ h1 h2
    obtain ⟨v, hv⟩ := spell_of_range 1000 (by omega) _ h3 h4
    obtain ⟨w, hw⟩ := spell_of_range 2 (by omega) _ h5 h6
    exact ⟨u, v, w, hu, hv, hw⟩
  choose u v w hu hv hw using key
  exact ⟨fun b => ⟨u b, v b, w b⟩, fun b t => ⟨hu b t, hv b t, hw b t⟩⟩
end

/-- The packed words are the packs of the ids the index arrays spell. -/
theorem packed_eq {ids : Fin 1024 → Ids} (h : SpellIds (arg m c main_arg1) (arg m c main_arg3) (arg m c main_arg4) ids) (b : Fin 1024) (x : Fin 50) :
    (insAt m c).packed (ix2 b x) = pack ((ids b).c x) ((ids b).d x) ((ids b).r x) := by
  obtain ⟨h1, h3, h4⟩ := h b x
  have e : (insAt m c).packed (ix2 b x) = IntOp.addi (IntOp.addi (arg m c main_arg1 (ix2 b x)) (IntOp.shli .host (arg m c main_arg3 (ix2 b x)) 10#32))
      (IntOp.shli .host (arg m c main_arg4 (ix2 b x)) 20#32) := congrFun (V_v6 m c) (ix2 b x)
  rw [e, h1, h3, h4]
  have s10 : ∀ y : BitVec 32, IntOp.shli .host y 10#32 = y <<< 10 := fun y => if_pos (by decide)
  have s20 : ∀ y : BitVec 32, IntOp.shli .host y 20#32 = y <<< 20 := fun y => if_pos (by decide)
  rw [s10, s20]
  apply BitVec.eq_of_toNat_eq
  rw [pack_toNat]
  show (BitVec.ofNat 32 _ + BitVec.ofNat 32 _ <<< 10 + BitVec.ofNat 32 _ <<< 20).toNat = _
  simp only [BitVec.toNat_add, BitVec.toNat_shiftLeft, BitVec.toNat_ofNat, Nat.shiftLeft_eq]
  omega

end Cert.Proof.KIns

end
-- ==== Proof.RGather.lean ====
/- The reference's gathers and its reads and writes of a stack's row, at an index. -/
module

public import Idealize.ShloMosaic.Lib.DynamicIndex
public import proofs.«01_k».proof.Proof.Model
public import proofs.«01_k».proof.Proof.Words
public import proofs.«01_k».proof.Proof.Gen.ReferenceIdeal.Step

@[expose] public section

set_option maxRecDepth 16384

noncomputable section

namespace Cert.Proof.RGather

open Cert.ReferenceIdeal Cert.ReferenceIdeal.Gen
open Idealize.ShloMosaic

/-- A small number as a word, read signed and clamped to a range it lies in. -/
theorem clamp_eq {n : ℕ} (hn : n ≤ 1024) (k : Fin n) : min (BitVec.ofNat 32 k.val).toInt.toNat (n - 1) = k.val := by
  rw [toInt_ofNat_of_lt (by omega)]
  omega

/-- A table's row at an id. -/
theorem gather_D {α : Type} (x : S1000x1.Idx → α) (idx : IVec S1024x50x1 32) (b : Fin 1024) (t : Fin 50) (k : Fin 1000)
    (hk : idx (ix3 b t 0) = BitVec.ofNat 32 k.val) :
    Host.gather gather_S1000x1_S1024x50x1_S1024x50x1_2_0_n_n_0_2_11 x idx (ix3 b t 0) = x (ix2 k 0) := by
  refine congrArg x (funext fun a => Fin.ext ?_)
  match a with
  | ⟨0, _⟩ =>
    refine Eq.trans ?_ (clamp_eq (by omega) k)
    rw [← hk]
    show min (idx _).toInt.toNat _ + 0 + 0 = _
    refine congrArg (fun i => min (idx i).toInt.toNat 999) (funext fun c => Fin.ext ?_)
    match c with
    | ⟨0, _⟩ => rfl
    | ⟨1, _⟩ => rfl
    | ⟨2, _⟩ => rfl
  | ⟨1, _⟩ => rfl

/-- The same for the two-row table. -/
theorem gather_R {α : Type} (x : S2x64.Idx → α) (idx : IVec S1024x50x1 32) (b : Fin 1024) (t : Fin 50) (i : Fin 64) (k : Fin 2)
    (hk : idx (ix3 b t 0) = BitVec.ofNat 32 k.val) :
    Host.gather gather_S2x64_S1024x50x1_S1024x50x64_2_0_n_n_0_2_164 x idx (ix3 b t i) = x (ix2 k i) := by
  refine congrArg x (funext fun a => Fin.ext ?_)
  match a with
  | ⟨0, _⟩ =>
    refine Eq.trans ?_ (clamp_eq (by omega) k)
    rw [← hk]
    show min (idx _).toInt.toNat _ + 0 + 0 = _
    refine congrArg (fun i => min (idx i).toInt.toNat 1) (funext fun c => Fin.ext ?_)
    match c with
    | ⟨0, _⟩ => rfl
    | ⟨1, _⟩ => rfl
    | ⟨2, _⟩ => rfl
  | ⟨1, _⟩ => show 0 + 0 + i.val = i.val; omega

/-- A row's entry at the row's own id. -/
theorem gather_C {α : Type} (x : S1024x1000.Idx → α) (idx : IVec S1024x1x1 32) (b : Fin 1024) (k : Fin 1000)
    (hk : idx (ix3 b 0 0) = BitVec.ofNat 32 k.val) :
    Host.gather gather_S1024x1000_S1024x1x1_S1024x1_n_1_0_0_1_2_11 x idx (ix2 b 0) = x (ix2 b k) := by
  refine congrArg x (funext fun a => Fin.ext ?_)
  match a with
  | ⟨0, _⟩ => show 0 + b.val + 0 = b.val; omega
  | ⟨1, _⟩ =>
    refine Eq.trans ?_ (clamp_eq (by omega) k)
    rw [← hk]
    show min (idx _).toInt.toNat _ + 0 + 0 = _
    refine congrArg (fun i => min (idx i).toInt.toNat 999) (funext fun c => Fin.ext ?_)
    match c with
    | ⟨0, _⟩ => rfl
    | ⟨1, _⟩ => rfl
    | ⟨2, _⟩ => rfl

variable {n p : ℕ}

/-- Where the start is row `j` of a stack of three axes, the window is that row. -/
theorem slice3_apply {α : Type} (x : (⟨3, ![50, n, p]⟩ : Shape).Idx → α) (start : Fin 3 → Int) (h : Shape.Slices ⟨3, ![50, n, p]⟩ (fun _ => 0) ⟨3, ![1, n, p]⟩)
    (j : Fin 50) (h0 : start 0 = j.val) (h1 : start 1 = 0) (h2 : start 2 = 0) (b : Fin n) (i : Fin p) :
    Host.dynamicSlice ⟨3, ![1, n, p]⟩ x start h (ix3 0 b i) = x (ix3 j b i) := by
  rw [Host.dynamicSlice_apply]
  refine congrArg x (funext fun a => Fin.ext ?_)
  match a with
  | ⟨0, _⟩ =>
    show (min (max (start 0) 0) ((50 - 1 : ℕ) : Int)).toNat + 0 = j.val
    omega
  | ⟨1, _⟩ =>
    show (min (max (start 1) 0) ((n - n : ℕ) : Int)).toNat + b.val = b.val
    omega
  | ⟨2, _⟩ =>
    show (min (max (start 2) 0) ((p - p : ℕ) : Int)).toNat + i.val = i.val
    omega

/-- The same for a stack of two axes. -/
theorem slice2_apply {α : Type} (x : (⟨2, ![50, n]⟩ : Shape).Idx → α) (start : Fin 2 → Int) (h : Shape.Slices ⟨2, ![50, n]⟩ (fun _ => 0) ⟨2, ![1, n]⟩)
    (j : Fin 50) (h0 : start 0 = j.val) (h1 : start 1 = 0) (b : Fin n) :
    Host.dynamicSlice ⟨2, ![1, n]⟩ x start h (ix2 0 b) = x (ix2 j b) := by
  rw [Host.dynamicSlice_apply]
  refine congrArg x (funext fun a => Fin.ext ?_)
  match a with
  | ⟨0, _⟩ =>
    show (min (max (start 0) 0) ((50 - 1 : ℕ) : Int)).toNat + 0 = j.val
    omega
  | ⟨1, _⟩ =>
    show (min (max (start 1) 0) ((n - n : ℕ) : Int)).toNat + b.val = b.val
    omega

/-- Writing row `j` of a stack: that row is the update, the others are as before. -/
theorem update3_apply {α : Type} (x : (⟨3, ![50, n, p]⟩ : Shape).Idx → α) (upd : (⟨3, ![1, n, p]⟩ : Shape).Idx → α) (start : Fin 3 → Int)
    (h : Shape.Slices ⟨3, ![50, n, p]⟩ (fun _ => 0) ⟨3, ![1, n, p]⟩)
    (j : Fin 50) (h0 : start 0 = j.val) (h1 : start 1 = 0) (h2 : start 2 = 0) (t : Fin 50) (b : Fin n) (i : Fin p) :
    Host.dynamicUpdateSlice x upd start h (ix3 t b i) = if t = j then upd (ix3 0 b i) else x (ix3 t b i) := by
  have e0 : Host.clampedStart ⟨3, ![50, n, p]⟩ ⟨3, ![1, n, p]⟩ h.1 start 0 = j.val := by
    show (min (max (start 0) 0) ((50 - 1 : ℕ) : Int)).toNat = j.val
    omega
  have e1 : Host.clampedStart ⟨3, ![50, n, p]⟩ ⟨3, ![1, n, p]⟩ h.1 start 1 = 0 := by
    show (min (max (start 1) 0) ((n - n : ℕ) : Int)).toNat = 0
    omega
  have e2 : Host.clampedStart ⟨3, ![50, n, p]⟩ ⟨3, ![1, n, p]⟩ h.1 start 2 = 0 := by
    show (min (max (start 2) 0) ((p - p : ℕ) : Int)).toNat = 0
    omega
  rw [Host.dynamicUpdateSlice_apply]
  by_cases ht : t = j
  · rw [if_pos ht, dif_pos]
    · refine congrArg upd (funext fun a => Fin.ext ?_)
      match a with
      | ⟨0, _⟩ => show t.val - Host.clampedStart _ _ h.1 start 0 = 0; rw [e0, ht]; omega
      | ⟨1, _⟩ => show b.val - Host.clampedStart _ _ h.1 start 1 = b.val; rw [e1]; omega
      | ⟨2, _⟩ => show i.val - Host.clampedStart _ _ h.1 start 2 = i.val; rw [e2]; omega
    · intro a
      match a with
      | ⟨0, _⟩ =>
        show Host.clampedStart _ _ h.1 start 0 ≤ t.val ∧ t.val < Host.clampedStart _ _ h.1 start 0 + 1
        rw [e0, ht]; omega
      | ⟨1, _⟩ =>
        show Host.clampedStart _ _ h.1 start 1 ≤ b.val ∧ b.val < Host.clampedStart _ _ h.1 start 1 + n
        rw [e1]; omega
      | ⟨2, _⟩ =>
        show Host.clampedStart _ _ h.1 start 2 ≤ i.val ∧ i.val < Host.clampedStart _ _ h.1 start 2 + p
        rw [e2]; omega
  · rw [if_neg ht, dif_neg]
    intro hin
    have := hin 0
    change Host.clampedStart _ _ h.1 start 0 ≤ t.val ∧ t.val < Host.clampedStart _ _ h.1 start 0 + 1 at this
    rw [e0] at this
    exact ht (Fin.ext (by omega))

end Cert.Proof.RGather

end
-- ==== Proof.RStepMath.lean ====
/- One trip of the reference at an index: each array the trip computes, as the row mathematics of its operands. -/
module

public import proofs.«01_k».proof.Proof.KStepMath
public import proofs.«01_k».proof.Proof.RGather

@[expose] public section

set_option maxRecDepth 16384

noncomputable section

namespace Cert.Proof.RStepMath

open Cert.ReferenceIdeal Cert.ReferenceIdeal.Gen Cert.ReferenceIdeal.Step
open Cert.Proof.Model Cert.Proof.Words Cert.Proof.RGather
open Idealize.ShloMosaic

/-- What the state holds that no trip changes: the stacks of inputs, of the weights and ids, and the weights. -/
structure Consts (w : Weights) (ids : Fin 1024 → Ids) (s : State Ideal) : Prop where
  x : ∀ (t : Fin 50) (b : Fin 1024) (k : Fin 128), s.main_v27_0 (ix3 t b k)
    = if h : k.val < 64 then vdAt w (ids b) t ⟨k.val, h⟩ else vrAt w (ids b) t ⟨k.val - 64, by omega⟩
  c : ∀ (t : Fin 50) (b : Fin 1024), s.main_v27_1 (ix2 t b) = BitVec.ofNat 32 ((ids b).c t).val
  vd : ∀ (t : Fin 50) (b : Fin 1024) (i : Fin 64), s.main_v27_2 (ix3 t b i) = vdAt w (ids b) t i
  vr : ∀ (t : Fin 50) (b : Fin 1024) (i : Fin 64), s.main_v27_3 (ix3 t b i) = vrAt w (ids b) t i
  Wih : ∀ j k, s.main_v27_4 (ix2 j k) = w.Wih j k
  bih : ∀ j, s.main_v27_5 (ix1 j) = w.bih j
  Whh : ∀ j k, s.main_v27_6 (ix2 j k) = w.Whh j k
  bhh : ∀ j, s.main_v27_7 (ix1 j) = w.bhh j
  vc : ∀ i, s.main_v27_8 (ix1 i) = w.vc i
  W2a : ∀ i k, s.main_v27_9 (ix2 i k) = w.W2a i k
  b2a : ∀ i, s.main_v27_10 (ix1 i) = w.b2a i
  W2b : ∀ i, s.main_v27_11 (ix2 0 i) = w.W2b i
  b2b : s.main_v27_12 (ix1 0) = w.b2b

/-- A sum over 128 in its two halves. -/
theorem sum_two (f : Fin 128 → EReal) : ∑ x, f x = (∑ k : Fin 64, f ⟨k.val, by omega⟩) + ∑ k : Fin 64, f ⟨64 + k.val, by omega⟩ :=
  Fin.sum_univ_add (a := 64) (b := 64) f

/-- The same when the first factor is two pieces side by side. -/
theorem sum_halves (A B : Fin 64 → EReal) (g : Fin 128 → EReal) :
    (∑ x : Fin 128, (if h : x.val < 64 then A ⟨x.val, h⟩ else B ⟨x.val - 64, by omega⟩) * g x)
      = (∑ k : Fin 64, A k * g ⟨k.val, by omega⟩) + ∑ k : Fin 64, B k * g ⟨64 + k.val, by omega⟩ := by
  rw [sum_two]
  refine congrArg₂ (· + ·) (Finset.sum_congr rfl fun k _ => ?_) (Finset.sum_congr rfl fun k _ => ?_)
  · rw [dif_pos k.isLt]
  · rw [dif_neg (by simp)]
    exact congrArg (B · * _) (Fin.ext (by simp))

variable {w : Weights} {ids : Fin 1024 → Ids} {s : State Ideal} (hs : Consts w ids s) (t : Fin 50) (b : Fin 1024)

/-- A trip's number, read back from its word. -/
theorem trip_toInt : (BitVec.ofNat 32 t.val).toInt = (t.val : Int) := toInt_ofNat_of_lt (by omega)

/-! ## The rows the trip reads of the stacks -/

include hs in
theorem x_apply (k : Fin 128) : b3 t.val s (ix2 b k)
    = if h : k.val < 64 then vdAt w (ids b) t ⟨k.val, h⟩ else vrAt w (ids b) t ⟨k.val - 64, by omega⟩ := by
  rw [← hs.x t b k]
  refine Eq.trans (b := b2 t.val s (ix3 0 b k)) ?_ ?_
  · pointwise [b3]
  · unfold b2
    exact slice3_apply s.main_v27_0 _ _ t (trip_toInt t) rfl rfl b k

include hs in
theorem c_apply : b6 t.val s (ix1 b) = BitVec.ofNat 32 ((ids b).c t).val := by
  rw [← hs.c t b]
  refine Eq.trans (b := b5 t.val s (ix2 0 b)) ?_ ?_
  · pointwise [b6]
  · unfold b5
    exact slice2_apply s.main_v27_1 _ _ t (trip_toInt t) rfl b

include hs in
theorem vd_apply (i : Fin 64) : b10 t.val s (ix2 b i) = vdAt w (ids b) t i := by
  rw [← hs.vd t b i]
  refine Eq.trans (b := b9 t.val s (ix3 0 b i)) ?_ ?_
  · pointwise [b10]
  · unfold b9
    exact slice3_apply s.main_v27_2 _ _ t (trip_toInt t) rfl rfl b i

include hs in
theorem vr_apply (i : Fin 64) : b14 t.val s (ix2 b i) = vrAt w (ids b) t i := by
  rw [← hs.vr t b i]
  refine Eq.trans (b := b13 t.val s (ix3 0 b i)) ?_ ?_
  · pointwise [b14]
  · unfold b13
    exact slice3_apply s.main_v27_3 _ _ t (trip_toInt t) rfl rfl b i

/-! ## The hidden state -/

include hs in
theorem gi_apply (j : Fin 192) : b19 t.val s (ix2 b j) = gi w (vdAt w (ids b) t) (vrAt w (ids b) t) j := by
  unfold gi
  pointwise [b19, b18, b17, b16, b15]
  simp only [x_apply hs, hs.Wih, hs.bih, sum_halves (vdAt w (ids b) t) (vrAt w (ids b) t) (w.Wih j)]

include hs in
theorem gh_apply (j : Fin 192) : b24 t.val s (ix2 b j) = gh w (fun k => s.main_v27_14 (ix2 b k)) j := by
  unfold gh
  pointwise [b24, b23, b22, b21, b20]
  simp only [hs.Whh, hs.bhh]

include hs in
/-- The hidden states after the trip. -/
theorem gru_apply (i : Fin 64) : b57 t.val s (ix2 b i)
    = gru w (vdAt w (ids b) t) (vrAt w (ids b) t) (fun k => s.main_v27_14 (ix2 b k)) i := by
  unfold gru zGate
  simp only [← gi_apply hs t b, ← gh_apply hs t b]
  unfold Ideal.logistic
  pointwise [b57, b56, b55, b54, b53, b52, b51, b50, b49, b48, b47, b46, b45, b44, b43, b42, b41, b40, b39, b38, b37, b36,
    b35, b34, b33, b32, b31, b30, b29, b28, b27, b26, b25]

/-! ## The concept table -/

/-- A one-bit word that is not one is zero. -/
theorem eq_zero_of_ne_one {x : BitVec 1} (h : x ≠ 1) : x = 0#1 := by
  revert x; decide

include hs in
/-- The ids the gather takes: not negative, so left alone. -/
theorem at_apply : b66 t.val s (ix3 b 0 0) = BitVec.ofNat 32 ((ids b).c t).val := by
  have h := c_apply hs t b
  have e : (b66 t.val s (ix3 b 0 0)) = Scalar.select (IntOp.cmpi .slt (b6 t.val s (ix1 b)) 0#32)
      (IntOp.addi (b6 t.val s (ix1 b)) 1000#32) (b6 t.val s (ix1 b)) := by
    pointwise [b66, b65, b64, b63, b62, b61, b60, b59, b58]
  rw [e, h]
  refine if_neg fun hc => ?_
  have := IntOp.cmpi_slt.mp hc
  rw [toInt_ofNat_of_lt (by omega)] at this
  exact absurd this (by simp)

include hs in
/-- Every id is in range, so no entry is masked. -/
theorem mask_apply : b76 t.val s (ix2 b 0) = 1#1 := by
  have e : b76 t.val s (ix2 b 0) = Finset.fold IntOp.andi 1#1 (fun x : Fin 1 =>
      IntOp.andi (IntOp.cmpi .sge (b66 t.val s (ix3 b 0 x)) 0#32) (IntOp.cmpi .sle (b66 t.val s (ix3 b 0 x)) 999#32)) Finset.univ := by
    pointwise [b76, b75, b74, b73, b72, b71, b70, b69, b68, b67]
  have ht : (BitVec.ofNat 32 ((ids b).c t).val).toInt = (((ids b).c t).val : Int) := toInt_ofNat_of_lt (by omega)
  rw [e, Finset.univ_unique, Finset.fold_singleton]
  show IntOp.andi (IntOp.andi (IntOp.cmpi .sge (b66 t.val s (ix3 b 0 0)) 0#32) (IntOp.cmpi .sle (b66 t.val s (ix3 b 0 0)) 999#32)) 1#1 = 1#1
  rw [at_apply hs, IntOp.cmpi_sge.mpr (by rw [ht]; exact Int.natCast_nonneg _),
    IntOp.cmpi_sle.mpr (by rw [ht]; show _ ≤ (999 : Int); omega)]
  rfl

include hs in
/-- The mastery the trip reads. -/
theorem mastery_apply : b80 t.val s (ix2 b 0) = s.main_v27_15 (ix2 b ((ids b).c t)) := by
  have e : b80 t.val s (ix2 b 0) = Scalar.select (b76 t.val s (ix2 b 0)) (b77 t.val s (ix2 b 0)) (b79 t.val s (ix2 b 0)) := by
    pointwise [b80]
  rw [e, mask_apply hs]
  refine Eq.trans (b := b77 t.val s (ix2 b 0)) rfl ?_
  unfold b77
  exact gather_C _ _ b _ (at_apply hs t b)

include hs in
/-- The value written. -/
theorem written_apply : b99 t.val s (ix1 b)
    = written w (vdAt w (ids b) t) (vrAt w (ids b) t) (s.main_v27_15 (ix2 b ((ids b).c t))) := by
  rw [← mastery_apply hs t b]
  unfold written
  pointwise [b99, b98, b97, b96, b95, b94, b93, b92, b91, b90, b89, b88, b87, b86, b85, b84, b83, b82, b81]
  simp only [vd_apply hs, vr_apply hs, hs.vc, hs.W2a, hs.b2a, hs.W2b, hs.b2b]
  have h3 := fun x : Fin 64 => KStepMath.sum_pieces (fun k => b80 t.val s (ix2 b 0) * w.vc k) (vdAt w (ids b) t) (vrAt w (ids b) t) (w.W2a x)
  simp only [h3]

include hs in
/-- The concept table after the trip: the value written at the step's concept, the old entries elsewhere. -/
theorem table_apply (k : Fin 1000) : b113 t.val s (ix2 b k) = if k = (ids b).c t
    then written w (vdAt w (ids b) t) (vrAt w (ids b) t) (s.main_v27_15 (ix2 b ((ids b).c t))) else s.main_v27_15 (ix2 b k) := by
  have ho : b105 t.val s (ix2 b k) = if k = (ids b).c t then (1 : EReal) else 0 := by
    have e : b104 t.val s (ix2 b k) = IntOp.cmpi .eq (b6 t.val s (ix1 b)) (BitVec.ofNat 32 k.val) := by
      pointwise [b104, b103, b102, b101, b100]
    rw [c_apply hs] at e
    have e' : b105 t.val s (ix2 b k) = (((b104 t.val s (ix2 b k)).toNat : ℝ) : EReal) := rfl
    rw [e', e]
    by_cases hk : k = (ids b).c t
    · rw [if_pos hk, IntOp.cmpi_eq.mpr (congrArg _ (congrArg Fin.val hk.symm))]
      exact congrArg Real.toEReal Nat.cast_one
    · rw [if_neg hk, eq_zero_of_ne_one fun hc => hk (Fin.ext ((ofNat_inj (by omega) (by omega)).mp (IntOp.cmpi_eq.mp hc)).symm)]
      exact congrArg Real.toEReal Nat.cast_zero
  have e : b113 t.val s (ix2 b k) = s.main_v27_15 (ix2 b k) * (1 - b105 t.val s (ix2 b k)) + b99 t.val s (ix1 b) * b105 t.val s (ix2 b k) := by
    pointwise [b113, b112, b111, b110, b109, b108, b107, b106]
  rw [e, ho, written_apply hs]
  by_cases hk : k = (ids b).c t
  · rw [if_pos hk, if_pos hk, show (1 : EReal) - 1 = 0 from EReal.sub_self (by decide) (by decide), mul_zero, zero_add, mul_one]
  · rw [if_neg hk, if_neg hk]
    simp

/-! ## The stacks -/

/-- Row `t` of the stack of hidden states is the trip's, the other rows stay, -/
theorem hStack_apply (x : Fin 50) (i : Fin 64) : b117 t.val s (ix3 x b i)
    = if x = t then b57 t.val s (ix2 b i) else s.main_v27_16 (ix3 x b i) := by
  unfold b117
  refine (update3_apply _ _ _ _ t (trip_toInt t) rfl rfl x b i).trans (if_congr Iff.rfl ?_ rfl)
  pointwise [b114]

/-- and of the stack of concept tables. -/
theorem CStack_apply (x : Fin 50) (k : Fin 1000) : b121 t.val s (ix3 x b k)
    = if x = t then b113 t.val s (ix2 b k) else s.main_v27_17 (ix3 x b k) := by
  unfold b121
  refine (update3_apply _ _ _ _ t (trip_toInt t) rfl rfl x b k).trans (if_congr Iff.rfl ?_ rfl)
  pointwise [b118]

end Cert.Proof.RStepMath

end
-- ==== Proof.RRows.lean ====
/- The reference's state after any number of trips, and its results, as the row model's states. -/
module

public import proofs.«01_k».proof.Proof.KIns
public import proofs.«01_k».proof.Proof.RStepMath

@[expose] public section

set_option maxRecDepth 16384

noncomputable section

namespace Cert.Proof.RRows

open Cert.ReferenceIdeal Cert.ReferenceIdeal.Gen Cert.ReferenceIdeal.Step
open Cert.Proof.Model Cert.Proof.Words Cert.Proof.RGather Cert.Proof.RStepMath
open Idealize.ShloMosaic

/-! ## The stacks the loop starts from -/

section
variable (a1 a3 a4 : IVec S1024x50 32) (a5 : FVec Ideal S1000x1 .f32) (a6 : FVec Ideal S64 .f32) (a8 : FVec Ideal S2x64 .f32)
variable {ids : Fin 1024 → Ids} (hids : KIns.SpellIds a1 a3 a4 ids) (b : Fin 1024) (t : Fin 50)

/-- An index spelled by a small number is not negative, so it is left alone. -/
theorem wrap_eq {n : ℕ} (hn : n ≤ 1024) (k : Fin n) (x y : BitVec 32) (hx : x = BitVec.ofNat 32 k.val) :
    Scalar.select (IntOp.cmpi .slt x 0#32) y x = BitVec.ofNat 32 k.val := by
  subst hx
  refine if_neg fun hc => ?_
  have := IntOp.cmpi_slt.mp hc
  rw [toInt_ofNat_of_lt (by omega)] at this
  exact absurd this (by simp)

include hids in
/-- The difficulty stack: the table's entry at the difficulty times the vector. -/
theorem start_vd (i : Fin 64) : A_main_v10 (F := Ideal) a1 a3 a4 a5 a6 a8 (ix3 b t i) = a5 (ix2 ((ids b).d t) 0) * a6 (ix1 i) := by
  have hi : A_main_v5 (F := Ideal) a1 a3 a4 a5 a6 a8 (ix3 b t 0) = BitVec.ofNat 32 ((ids b).d t).val := by
    refine Eq.trans ?_ (wrap_eq (by omega) ((ids b).d t) (a3 (ix2 b t)) (IntOp.addi (a3 (ix2 b t)) 1000#32) (hids b t).2.1)
    pointwise [A_main_v5, A_main_v4, A_main_v3, A_main_v1, K_main_v0, K_main_c, K_main_v2, K_main_c_0]
  have hg : A_main_v6 (F := Ideal) a1 a3 a4 a5 a6 a8 (ix3 b t 0) = a5 (ix2 ((ids b).d t) 0) := gather_D a5 _ b t _ hi
  rw [← hg]
  pointwise [A_main_v10, A_main_v9, A_main_v8, A_main_v7]

include hids in
/-- The response stack: the table's row at the response. -/
theorem start_vr (i : Fin 64) : A_main_v17 (F := Ideal) a1 a3 a4 a5 a6 a8 (ix3 b t i) = a8 (ix2 ((ids b).r t) i) := by
  refine gather_R a8 _ b t i _ ?_
  refine Eq.trans ?_ (wrap_eq (by omega) ((ids b).r t) (a4 (ix2 b t)) (IntOp.addi (a4 (ix2 b t)) 2#32) (hids b t).2.2)
  pointwise [A_main_v16, A_main_v15, A_main_v14, A_main_v12, K_main_v11, K_main_c_1, K_main_v13, K_main_c_2]

/-- The two side by side, steps first. -/
theorem start_x (k : Fin 128) : A_main_v21 (F := Ideal) a1 a3 a4 a5 a6 a8 (ix3 t b k)
    = if h : k.val < 64 then A_main_v10 (F := Ideal) a1 a3 a4 a5 a6 a8 (ix3 b t ⟨k.val, h⟩)
      else A_main_v17 (F := Ideal) a1 a3 a4 a5 a6 a8 (ix3 b t ⟨k.val - 64, by omega⟩) := by
  pointwise [A_main_v21, A_main_v18]

theorem start_c : A_main_v22 (F := Ideal) a1 a3 a4 a5 a6 a8 (ix2 t b) = a1 (ix2 b t) := by
  pointwise [A_main_v22]

theorem start_vdT (i : Fin 64) : A_main_v23 (F := Ideal) a1 a3 a4 a5 a6 a8 (ix3 t b i) = A_main_v10 (F := Ideal) a1 a3 a4 a5 a6 a8 (ix3 b t i) := by
  pointwise [A_main_v23]

theorem start_vrT (i : Fin 64) : A_main_v24 (F := Ideal) a1 a3 a4 a5 a6 a8 (ix3 t b i) = A_main_v17 (F := Ideal) a1 a3 a4 a5 a6 a8 (ix3 b t i) := by
  pointwise [A_main_v24]
end

/-- What the loop starts from holds the weights and the ids of the argument arrays. -/
theorem consts_init (w : Weights) (ids : Fin 1024 → Ids) (a9 : FVec Ideal S192x128 .f32) (a11 : FVec Ideal S192 .f32) (a10 : FVec Ideal S192x64 .f32)
    (a12 : FVec Ideal S192 .f32) (a7 : FVec Ideal S64 .f32) (a17 : FVec Ideal S64x192 .f32) (a18 : FVec Ideal S64 .f32)
    (a19 : FVec Ideal S1x64 .f32) (a20 : FVec Ideal S1 .f32) (a1 a3 a4 : IVec S1024x50 32) (a5 : FVec Ideal S1000x1 .f32)
    (a6 : FVec Ideal S64 .f32) (a8 : FVec Ideal S2x64 .f32) (hids : KIns.SpellIds a1 a3 a4 ids)
    (h5 : ∀ k, a5 (ix2 k 0) = w.D k) (h6 : ∀ i, a6 (ix1 i) = w.vd i) (h8 : ∀ r i, a8 (ix2 r i) = w.R r i)
    (h9 : ∀ j k, a9 (ix2 j k) = w.Wih j k) (h11 : ∀ j, a11 (ix1 j) = w.bih j) (h10 : ∀ j k, a10 (ix2 j k) = w.Whh j k)
    (h12 : ∀ j, a12 (ix1 j) = w.bhh j) (h7 : ∀ i, a7 (ix1 i) = w.vc i) (h17 : ∀ i k, a17 (ix2 i k) = w.W2a i k)
    (h18 : ∀ i, a18 (ix1 i) = w.b2a i) (h19 : ∀ i, a19 (ix2 0 i) = w.W2b i) (h20 : a20 (ix1 0) = w.b2b) :
    Consts w ids (init a9 a11 a10 a12 a7 a17 a18 a19 a20 a1 a3 a4 a5 a6 a8) := by
  have hvd : ∀ t b i, A_main_v10 (F := Ideal) a1 a3 a4 a5 a6 a8 (ix3 b t i) = vdAt w (ids b) t i := fun t b i => by
    rw [start_vd a1 a3 a4 a5 a6 a8 hids b t i, h5, h6]
    rfl
  have hvr : ∀ t b i, A_main_v17 (F := Ideal) a1 a3 a4 a5 a6 a8 (ix3 b t i) = vrAt w (ids b) t i := fun t b i => by
    rw [start_vr a1 a3 a4 a5 a6 a8 hids b t i, h8]
    rfl
  exact {
    x := fun t b k => by
      refine (start_x a1 a3 a4 a5 a6 a8 b t k).trans ?_
      simp only [hvd, hvr]
    c := fun t b => (start_c a1 a3 a4 a5 a6 a8 b t).trans (hids b t).1
    vd := fun t b i => (start_vdT a1 a3 a4 a5 a6 a8 b t i).trans (hvd t b i)
    vr := fun t b i => (start_vrT a1 a3 a4 a5 a6 a8 b t i).trans (hvr t b i)
    Wih := h9, bih := h11, Whh := h10, bhh := h12, vc := h7, W2a := h17, b2a := h18, W2b := h19, b2b := h20 }

/-! ## The trips -/

/-- Before trip `n` the state holds the constants, the model's states before step `n`, and in its stacks the model's states
    after each step so far. -/
structure Holds (w : Weights) (ids : Fin 1024 → Ids) (n : ℕ) (s : State Ideal) : Prop where
  consts : Consts w ids s
  h : ∀ (b : Fin 1024) (i : Fin 64), s.main_v27_14 (ix2 b i) = (rowAt w (ids b) n).h i
  C : ∀ (b : Fin 1024) (k : Fin 1000), s.main_v27_15 (ix2 b k) = (rowAt w (ids b) n).C k
  hs : ∀ (x : Fin 50) (b : Fin 1024) (i : Fin 64), x.val < n → s.main_v27_16 (ix3 x b i) = (rowAt w (ids b) (x.val + 1)).h i
  Cs : ∀ (x : Fin 50) (b : Fin 1024) (k : Fin 1000), x.val < n → s.main_v27_17 (ix3 x b k) = (rowAt w (ids b) (x.val + 1)).C k

variable {w : Weights} {ids : Fin 1024 → Ids}

/-- The constants are not touched. -/
theorem consts_step {s : State Ideal} (hs : Consts w ids s) (j : ℕ) : Consts w ids (step j s) where
  x := hs.x
  c := hs.c
  vd := hs.vd
  vr := hs.vr
  Wih := hs.Wih
  bih := hs.bih
  Whh := hs.Whh
  bhh := hs.bhh
  vc := hs.vc
  W2a := hs.W2a
  b2a := hs.b2a
  W2b := hs.W2b
  b2b := hs.b2b

/-- A trip takes the model one step. -/
theorem holds_step {s : State Ideal} (t : Fin 50) (hs : Holds w ids t.val s) : Holds w ids (t.val + 1) (step t.val s) := by
  have hh : ∀ (b : Fin 1024) (i : Fin 64), b57 t.val s (ix2 b i) = (rowAt w (ids b) (t.val + 1)).h i := fun b i => by
    rw [gru_apply hs.consts t b i, show (fun k => s.main_v27_14 (ix2 b k)) = _ from funext (hs.h b), rowAt_succ]
    rfl
  have hC : ∀ (b : Fin 1024) (k : Fin 1000), b113 t.val s (ix2 b k) = (rowAt w (ids b) (t.val + 1)).C k := fun b k => by
    rw [table_apply hs.consts t b k, hs.C, hs.C, rowAt_succ]
    rfl
  refine ⟨consts_step hs.consts t.val, fun b i => ?_, fun b k => ?_, fun x b i hx => ?_, fun x b k hx => ?_⟩
  · rw [step_main_v27_14]
    exact hh b i
  · rw [step_main_v27_15]
    exact hC b k
  · rw [step_main_v27_16, hStack_apply]
    by_cases e : x = t
    · rw [if_pos e, hh, e]
    · rw [if_neg e]
      exact hs.hs x b i (by have := fun h => e (Fin.ext h); omega)
  · rw [step_main_v27_17, CStack_apply]
    by_cases e : x = t
    · rw [if_pos e, hC, e]
    · rw [if_neg e]
      exact hs.Cs x b k (by have := fun h => e (Fin.ext h); omega)

/-- So the trips follow the model. -/
theorem holds_iter (s : ℕ → State Ideal) (h0 : Consts w ids (s 0)) (hh : (s 0).main_v27_14 = K_main_v19) (hC : (s 0).main_v27_15 = K_main_v20)
    (hstep : ∀ k, s (k + 1) = step k (s k)) (n : ℕ) (hn : n ≤ 50) : Holds w ids n (s n) := by
  induction n with
  | zero =>
    refine ⟨h0, fun b i => ?_, fun b k => ?_, fun x _ _ hx => absurd hx (by omega), fun x _ _ hx => absurd hx (by omega)⟩
    · rw [hh]
      refine Eq.trans ?_ (show (0 : EReal) = _ from rfl)
      pointwise [K_main_v19, K_main_cst]
    · rw [hC]
      refine Eq.trans ?_ (show (0 : EReal) = _ from rfl)
      pointwise [K_main_v20, K_main_cst_3]
  | succ n ih =>
    rw [hstep]
    exact holds_step ⟨n, by omega⟩ (ih (by omega))

/-! ## The results -/

section
variable {s : State Ideal} (hs : Holds w ids 50 s) (b : Fin 1024) (t : Fin 50)

include hs in
/-- The hidden states after every step, -/
theorem out_h (i : Fin 64) : R_main_v28 s (ix3 b t i) = (rowAt w (ids b) (t.val + 1)).h i := by
  rw [← hs.hs t b i t.isLt]
  pointwise [R_main_v28]

include hs in
/-- the concept tables, -/
theorem out_C (k : Fin 1000) : R_main_v29 s (ix3 b t k) = (rowAt w (ids b) (t.val + 1)).C k := by
  rw [← hs.Cs t b k t.isLt]
  pointwise [R_main_v29]

include hs in
/-- and the readouts. -/
theorem out_A (a13 : FVec Ideal S64x64 .f32) (a14 : FVec Ideal S64 .f32) (a15 : FVec Ideal S1x64 .f32) (a16 : FVec Ideal S1 .f32)
    (h13 : ∀ i k, a13 (ix2 i k) = w.W1a i k) (h14 : ∀ i, a14 (ix1 i) = w.b1a i) (h15 : ∀ i, a15 (ix2 0 i) = w.W1b i) (h16 : a16 (ix1 0) = w.b1b) :
    R_main_v41 s a13 a14 a15 a16 (ix2 b t) = readout w (rowAt w (ids b) (t.val + 1)).h := by
  unfold readout
  simp only [← hs.hs t b _ t.isLt, ← h13, ← h14, ← h15, ← h16]
  pointwise [R_main_v41]
end

end Cert.Proof.RRows

end
-- ==== Proof.Algebraic.lean ====
/- The kernel and the reference, at exact arithmetic and with the ids in range, end with the same results: element by element
   both are the row model's states after each step and the readouts of them. -/
module

public import proofs.«01_k».proof.Defs
public import proofs.«01_k».proof.Proof.KIns
public import proofs.«01_k».proof.Proof.RefIter
public import proofs.«01_k».proof.Proof.RRows

@[expose] public section

set_option maxRecDepth 16384

noncomputable section

namespace Cert.Proof.Algebraic

open Idealize.ShloMosaic Idealize.ShloMosaic.TcCoe Idealize.SL.Sem
open Cert.Proof.Model

/-- The conditions the precondition's own operations take. -/
theorem preFacts : Cert.Pre_ids_in_range.Facts := ⟨by decide⟩

section
open Cert.KernelIdeal Cert.KernelIdeal.Gen Cert.Proof.KernelIdeal Cert.Proof.KArrays

variable (m : (ℓ : Loc nD τ sig) → Buf (Elt Ideal) ℓ) (c : Dev nD) (ids : Fin 1024 → Ids) (b : Fin 1024) (t : Fin 50)

/-- The kernel's results at an index: the readouts, -/
theorem at_A : shapeCast S1024x50 (arrA m c ids) shapeCasts_S1024x50x1x1_S1024x50 (ix2 b t)
    = readout (KIns.argW m c) (rowAt (KIns.argW m c) (ids b) (t.val + 1)).h := by
  have e : shapeCast S1024x50 (arrA m c ids) shapeCasts_S1024x50x1x1_S1024x50 (ix2 b t) = arrA m c ids (ix4 b t 0 0) := by
    pointwise []
  rw [e, ← KIns.wts_eq]
  rfl

/-- the hidden states, -/
theorem at_H (i : Fin 64) : shapeCast S1024x50x64 (arrH m c ids) shapeCasts_S1024x50x1x64_S1024x50x64 (ix3 b t i)
    = (rowAt (KIns.argW m c) (ids b) (t.val + 1)).h i := by
  have e : shapeCast S1024x50x64 (arrH m c ids) shapeCasts_S1024x50x1x64_S1024x50x64 (ix3 b t i) = arrH m c ids (ix4 b t 0 i) := by
    pointwise []
  rw [e, ← KIns.wts_eq]
  rfl

/-- and the concept tables. -/
theorem at_C (k : Fin 1000) : shapeCast S1024x50x1000 (arrC m c ids) shapeCasts_S1024x50x1x1000_S1024x50x1000 (ix3 b t k)
    = (rowAt (KIns.argW m c) (ids b) (t.val + 1)).C k := by
  have e : shapeCast S1024x50x1000 (arrC m c ids) shapeCasts_S1024x50x1x1000_S1024x50x1000 (ix3 b t k) = arrC m c ids (ix4 b t 0 k) := by
    pointwise []
  rw [e, ← KIns.wts_eq]
  rfl
end

/-- The two programs end with equal results and with their arguments as they were. -/
theorem algebraic : Cert.algebraic_KernelIdeal_ReferenceIdeal_pre_ids_in_range (hKernelIdeal := Cert.KernelIdeal.Gen.facts)
    (hReferenceIdeal := Cert.ReferenceIdeal.Gen.facts) (hPre_ids_in_range := preFacts) := by
  intro m g m' g' hpre hargs
  have hex := fun c => KIns.ids_of_pre (hP := preFacts) m c hpre
  choose ids hids using hex
  have hpack := fun c => KIns.packed_eq m c (hids c)
  have hrows : ∀ c, RRows.Holds (KIns.argW m c) (ids c) 50 (RefIter.refState m' c 50) := fun c => by
    obtain ⟨-, h1, -, h3, h4, h5, h6, h7, h8, h9, h10, h11, h12, -, -, -, -, h17, h18, h19, h20⟩ := hargs c
    have hid := hids c
    refine RRows.holds_iter (RefIter.refState m' c) (RRows.consts_init _ _ _ _ _ _ _ _ _ _ _ _ _ _ _ _ _ ?_ ?_ ?_ ?_ ?_ ?_ ?_ ?_ ?_ ?_ ?_ ?_ ?_)
      rfl rfl (fun _ => rfl) 50 le_rfl
    · intro b t
      obtain ⟨p, q, r⟩ := hid b t
      exact ⟨(congrFun h1 _).trans p, (congrFun h3 _).trans q, (congrFun h4 _).trans r⟩
    · exact fun k => congrFun h5 _
    · exact fun k => congrFun h6 _
    · exact fun r k => congrFun h8 _
    · exact fun j k => congrFun h9 _
    · exact fun j => congrFun h11 _
    · exact fun j k => congrFun h10 _
    · exact fun j => congrFun h12 _
    · exact fun j => congrFun h7 _
    · exact fun j k => congrFun h17 _
    · exact fun j => congrFun h18 _
    · exact fun j => congrFun h19 _
    · exact congrFun h20 _
  refine ⟨fun c => shapeCast _ (KArrays.arrA m c (ids c)) Cert.KernelIdeal.Gen.shapeCasts_S1024x50x1x1_S1024x50,
    fun c => shapeCast _ (KArrays.arrH m c (ids c)) Cert.KernelIdeal.Gen.shapeCasts_S1024x50x1x64_S1024x50x64,
    fun c => shapeCast _ (KArrays.arrC m c (ids c)) Cert.KernelIdeal.Gen.shapeCasts_S1024x50x1x1000_S1024x50x1000, ?_, ?_⟩
  · have hrun := Cert.Proof.KernelIdeal.run m g
    refine (θ_run _ _ _).mono (fun r h => ?_) (θ_run_and hrun (Cert.KernelIdeal.Gen.frame_of m g
      (Cert.Proof.KernelIdeal.dats m) (Cert.Proof.KernelIdeal.A_eq m) hrun))
    exact fun c => ⟨KArrays.res_A m c (ids c) (hpack c) h.1, KArrays.res_H m c (ids c) (hpack c) h.1,
      KArrays.res_C m c (ids c) (hpack c) h.1, h.2 c⟩
  · refine (θ_run Cert.ReferenceIdeal.defs _ _).mono (fun r h c => ?_) (Cert.ReferenceIdeal.Value.run (F := Ideal) m' g')
    obtain ⟨r0, r1, r2, hkeep⟩ := h c
    obtain ⟨-, -, -, -, -, -, -, -, -, -, -, -, -, h13, h14, h15, h16, -, -, -, -⟩ := hargs c
    refine ⟨r0.trans ((RefIter.out_alpha m' c 50).trans (funext fun y => ?_)),
      r1.trans ((RefIter.out_h m' c 50).trans (funext fun y => ?_)), r2.trans ((RefIter.out_C2 m' c 50).trans (funext fun y => ?_)), hkeep⟩
    · rw [eq_ix2 y]
      exact (RRows.out_A (hrows c) _ _ _ _ _ _ (fun i k => congrFun h13 _) (fun i => congrFun h14 _) (fun i => congrFun h15 _)
        (congrFun h16 _)).trans (at_A m c (ids c) _ _).symm
    · rw [eq_ix3 y]
      exact (RRows.out_h (hrows c) _ _ _).trans (at_H m c (ids c) _ _ _).symm
    · rw [eq_ix3 y]
      exact (RRows.out_C (hrows c) _ _ _).trans (at_C m c (ids c) _ _ _).symm

end Cert.Proof.Algebraic

end
-- ==== Proof.lean ====
/- The proof of the certificate's claim. -/
module

public import proofs.«01_k».proof.Defs
public import proofs.«01_k».proof.Proof.Frames
public import proofs.«01_k».proof.Proof.Algebraic
public import proofs.«01_k».proof.Proof.Gen.ReferenceIdeal.Run
public import proofs.«01_k».proof.Proof.Gen.ReferenceIdeal.Step

@[expose] public section

noncomputable section

namespace Cert.Proof

/-- Every claim of the certificate: the frames, the two programs of the kernel being one, and the kernel computing what the
    reference computes. -/
theorem claim : Cert.Claim := ⟨Cert.Kernel.Gen.facts, Cert.KernelIdeal.Gen.facts, Cert.ReferenceIdeal.Gen.facts, Algebraic.preFacts,
  Frames.kernel, Frames.kernelIdeal, fun m ρ _ => Frames.kernelIdeal m ρ trivial,
  Frames.referenceIdeal, fun m ρ _ => Frames.referenceIdeal m ρ trivial, trivial, Algebraic.algebraic⟩

end Cert.Proof

end
